-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v445) = v0 c
          ∧ r.2.mem ((c.tc : Thread Cert.ReferenceIdeal.nD Cert.ReferenceIdeal.τ).loc Cert.ReferenceIdeal.main_cst_79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x2048 : Shape := ⟨3, ![2, 2048, 2048]⟩
abbrev S8x2048 : Shape := ⟨2, ![8, 2048]⟩
abbrev S8x8192x2048 : Shape := ⟨3, ![8, 8192, 2048]⟩
abbrev S8x2048x8192 : Shape := ⟨3, ![8, 2048, 8192]⟩
abbrev S4096x2048 : Shape := ⟨2, ![4096, 2048]⟩
abbrev S2048x8 : Shape := ⟨2, ![2048, 8]⟩
abbrev S4096x8 : Shape := ⟨2, ![4096, 8]⟩
abbrev S8x4096 : Shape := ⟨2, ![8, 4096]⟩
abbrev S8x640 : Shape := ⟨2, ![8, 640]⟩
abbrev S5120 : Shape := ⟨1, ![5120]⟩
abbrev S_ : Shape := ⟨0, ![]⟩
abbrev S5120x1 : Shape := ⟨2, ![5120, 1]⟩
abbrev S1 : Shape := ⟨1, ![1]⟩
abbrev S1x1 : Shape := ⟨2, ![1, 1]⟩
abbrev S5120x2048 : Shape := ⟨2, ![5120, 2048]⟩
abbrev S8x640x2048 : Shape := ⟨3, ![8, 640, 2048]⟩
abbrev S8x1x640 : Shape := ⟨3, ![8, 1, 640]⟩
abbrev S1x1x640 : Shape := ⟨3, ![1, 1, 640]⟩
abbrev S1x640x2048 : Shape := ⟨3, ![1, 640, 2048]⟩
abbrev S1x1024x2048 : Shape := ⟨3, ![1, 1024, 2048]⟩
abbrev S1x2048x1024 : Shape := ⟨3, ![1, 2048, 1024]⟩
abbrev S640x2048 : Shape := ⟨2, ![640, 2048]⟩
abbrev S1024x2048 : Shape := ⟨2, ![1024, 2048]⟩
abbrev S2048x1024 : Shape := ⟨2, ![2048, 1024]⟩
abbrev S640x1024 : Shape := ⟨2, ![640, 1024]⟩
abbrev S1x640 : Shape := ⟨2, ![1, 640]⟩
abbrev S640x1 : Shape := ⟨2, ![640, 1]⟩
abbrev S4096x640 : Shape := ⟨2, ![4096, 640]⟩

abbrev nBuf : Space → Nat
  | .hbm => 47
  | .vmem => 18
  | .smem => 0
  | _ => 0

abbrev bufTy : (tb : Table) → Fin (tcTables nBuf tb) → BufTy
  | .hbm, ⟨0, _⟩ => ⟨S2x2048x2048, .f32⟩
  | .hbm, ⟨1, _⟩ => ⟨S8x2048, .f32⟩
  | .hbm, ⟨2, _⟩ => ⟨S8x8192x2048, .f32⟩
  | .hbm, ⟨3, _⟩ => ⟨S8x2048x8192, .f32⟩
  | .hbm, ⟨4, _⟩ => ⟨S8x8192x2048, .f32⟩
  | .hbm, ⟨5, _⟩ => ⟨S4096x2048, .f32⟩
  | .hbm, ⟨6, _⟩ => ⟨S2048x8, .f32⟩
  | .hbm, ⟨7, _⟩ => ⟨S4096x8, .f32⟩
  | .hbm, ⟨8, _⟩ => ⟨S8x4096, .f32⟩
  | .hbm, ⟨9, _⟩ => ⟨S8x640, .f32⟩
  | .hbm, ⟨10, _⟩ => ⟨S8x640, .i32⟩
  | .hbm, ⟨11, _⟩ => ⟨S5120, .i32⟩
  | .hbm, ⟨12, _⟩ => ⟨S_, .i32⟩
  | .hbm, ⟨13, _⟩ => ⟨S5120, .i32⟩
  | .hbm, ⟨14, _⟩ => ⟨S5120, .i1⟩
  | .hbm, ⟨15, _⟩ => ⟨S_, .i32⟩
  | .hbm, ⟨16, _⟩ => ⟨S5120, .i32⟩
  | .hbm, ⟨17, _⟩ => ⟨S5120, .i32⟩
  | .hbm, ⟨18, _⟩ => ⟨S5120, .i32⟩
  | .hbm, ⟨19, _⟩ => ⟨S5120x1, .i32⟩
  | .hbm, ⟨20, _⟩ => ⟨S1, .i32⟩
  | .hbm, ⟨21, _⟩ => ⟨S_, .i32⟩
  | .hbm, ⟨22, _⟩ => ⟨S5120x1, .i32⟩
  | .hbm, ⟨23, _⟩ => ⟨S5120x1, .i1⟩
  | .hbm, ⟨24, _⟩ => ⟨S1x1, .i32⟩
  | .hbm, ⟨25, _⟩ => ⟨S5120x1, .i32⟩
  | .hbm, ⟨26, _⟩ => ⟨S5120x1, .i1⟩
  | .hbm, ⟨27, _⟩ => ⟨S5120x1, .i1⟩
  | .hbm, ⟨28, _⟩ => ⟨S_, .i1⟩
  | .hbm, ⟨29, _⟩ => ⟨S5120, .i1⟩
  | .hbm, ⟨30, _⟩ => ⟨S5120x2048, .f32⟩
  | .hbm, ⟨31, _⟩ => ⟨S5120x2048, .i1⟩
  | .hbm, ⟨32, _⟩ => ⟨S_, .f32⟩
  | .hbm, ⟨33, _⟩ => ⟨S5120x2048, .f32⟩
  | .hbm, ⟨34, _⟩ => ⟨S5120x2048, .f32⟩
  | .hbm, ⟨35, _⟩ => ⟨S8x640x2048, .f32⟩
  | .hbm, ⟨36, _⟩ => ⟨S8x640x2048, .bf16⟩
  | .hbm, ⟨37, _⟩ => ⟨S8x8192x2048, .bf16⟩
  | .hbm, ⟨38, _⟩ => ⟨S8x8192x2048, .bf16⟩
  | .hbm, ⟨39, _⟩ => ⟨S8x2048x8192, .bf16⟩
  | .hbm, ⟨40, _⟩ => ⟨S8x1x640, .f32⟩
  | .hbm, ⟨41, _⟩ => ⟨S8x640x2048, .f32⟩
  | .hbm, ⟨42, _⟩ => ⟨S8x640x2048, .bf16⟩
  | .hbm, ⟨43, _⟩ => ⟨S8x1x640, .i32⟩
  | .hbm, ⟨44, _⟩ => ⟨S4096x2048, .f32⟩
  | .hbm, ⟨45, _⟩ => ⟨S2x2048x2048, .f32⟩
  | .hbm, ⟨46, _⟩ => ⟨S_, .f32⟩
  | .local _ .vmem, ⟨0, _⟩ => ⟨S1x1x640, .f32⟩
  | .local _ .vmem, ⟨1, _⟩ => ⟨S1x1x640, .f32⟩
  | .local _ .vmem, ⟨2, _⟩ => ⟨S1x640x2048, .bf16⟩
  | .local _ .vmem, ⟨3, _⟩ => ⟨S1x640x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x640x2048, .f32⟩
  | .local _ .vmem, ⟨11, _⟩ => ⟨S1x640x2048, .f32⟩
  | .local _ .vmem, ⟨12, _⟩ => ⟨S640x2048, .f32⟩
  | .local _ .vmem, ⟨13, _⟩ => ⟨S1x1x640, .i32⟩
  | .local _ .vmem, ⟨14, _⟩ => ⟨S1x1x640, .i32⟩
  | .local _ .vmem, ⟨15, _⟩ => ⟨S1x640x2048, .bf16⟩
  | .local _ .vmem, ⟨16, _⟩ => ⟨S1x640x2048, .bf16⟩
  | .local _ .vmem, ⟨17, _⟩ => ⟨S4096x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x640 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x640x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S2x2048x2048 : Shape := ⟨3, ![2, 2048, 2048]⟩
abbrev S8x2048 : Shape := ⟨2, ![8, 2048]⟩
abbrev S8x8192x2048 : Shape := ⟨3, ![8, 8192, 2048]⟩
abbrev S8x2048x8192 : Shape := ⟨3, ![8, 2048, 8192]⟩
abbrev S4096x2048 : Shape := ⟨2, ![4096, 2048]⟩
abbrev S2048x8 : Shape := ⟨2, ![2048, 8]⟩
abbrev S4096x8 : Shape := ⟨2, ![4096, 8]⟩
abbrev S8x4096 : Shape := ⟨2, ![8, 4096]⟩
abbrev S8x640 : Shape := ⟨2, ![8, 640]⟩
abbrev S_ : Shape := ⟨0, ![]⟩
abbrev S1x640 : Shape := ⟨2, ![1, 640]⟩
abbrev S640 : Shape := ⟨1, ![640]⟩
abbrev S640x1 : Shape := ⟨2, ![640, 1]⟩
abbrev S640x2048 : Shape := ⟨2, ![640, 2048]⟩
abbrev S1x8192x2048 : Shape := ⟨3, ![1, 8192, 2048]⟩
abbrev S8192x2048 : Shape := ⟨2, ![8192, 2048]⟩
abbrev S2048x8192 : Shape := ⟨2, ![2048, 8192]⟩
abbrev S640x8192 : Shape := ⟨2, ![640, 8192]⟩
abbrev S1x2048x8192 : Shape := ⟨3, ![1, 2048, 8192]⟩
abbrev S640x2 : Shape := ⟨2, ![640, 2]⟩
abbrev S1 : Shape := ⟨1, ![1]⟩
abbrev S1x1 : Shape := ⟨2, ![1, 1]⟩

abbrev nBuf : Space → Nat
  | .hbm => 599
  | .vmem => 0
  | .smem => 0
  | _ => 0

abbrev hbmTy0_0 (i : Nat) : BufTy := match i % 128 with
  | 0 => ⟨S2x2048x2048, .f32⟩
  | 1 => ⟨S8x2048, .f32⟩
  | 2 => ⟨S8x8192x2048, .f32⟩
  | 3 => ⟨S8x2048x8192, .f32⟩
  | 4 => ⟨S8x8192x2048, .f32⟩
  | 5 => ⟨S4096x2048, .f32⟩
  | 6 => ⟨S2048x8, .f32⟩
  | 7 => ⟨S4096x8, .f32⟩
  | 8 => ⟨S8x4096, .f32⟩
  | 9 => ⟨S8x640, .f32⟩
  | 10 => ⟨S8x640, .i32⟩
  | 11 => ⟨S_, .f32⟩
  | 12 => ⟨S4096x2048, .f32⟩
  | 13 => ⟨S1x640, .i32⟩
  | 14 => ⟨S640, .i32⟩
  | 15 => ⟨S_, .i32⟩
  | 16 => ⟨S640, .i32⟩
  | 17 => ⟨S640, .i1⟩
  | 18 => ⟨S_, .i32⟩
  | 19 => ⟨S640, .i32⟩
  | 20 => ⟨S640, .i32⟩
  | 21 => ⟨S640, .i32⟩
  | 22 => ⟨S640x1, .i32⟩
  | 23 => ⟨S640x2048, .f32⟩
  | 24 => ⟨S1x8192x2048, .f32⟩
  | 25 => ⟨S8192x2048, .f32⟩
  | 26 => ⟨S2048x8192, .f32⟩
  | 27 => ⟨S640x8192, .f32⟩
  | 28 => ⟨S640x8192, .f32⟩
  | 29 => ⟨S640x8192, .f32⟩
  | 30 => ⟨S_, .f32⟩
  | 31 => ⟨S640x8192, .f32⟩
  | 32 => ⟨S640x8192, .f32⟩
  | 33 => ⟨S_, .f32⟩
  | 34 => ⟨S640x8192, .f32⟩
  | 35 => ⟨S640x8192, .f32⟩
  | 36 => ⟨S640x8192, .f32⟩
  | 37 => ⟨S1x8192x2048, .f32⟩
  | 38 => ⟨S8192x2048, .f32⟩
  | 39 => ⟨S2048x8192, .f32⟩
  | 40 => ⟨S640x8192, .f32⟩
  | 41 => ⟨S640x8192, .f32⟩
  | 42 => ⟨S1x2048x8192, .f32⟩
  | 43 => ⟨S2048x8192, .f32⟩
  | 44 => ⟨S8192x2048, .f32⟩
  | 45 => ⟨S640x2048, .f32⟩
  | 46 => ⟨S_, .i32⟩
  | 47 => ⟨S640, .i32⟩
  | 48 => ⟨S640, .i1⟩
  | 49 => ⟨S_, .i32⟩
  | 50 => ⟨S640, .i32⟩
  | 51 => ⟨S640, .i32⟩
  | 52 => ⟨S640, .i32⟩
  | 53 => ⟨S_, .i32⟩
  | 54 => ⟨S640, .i32⟩
  | 55 => ⟨S640, .i32⟩
  | 56 => ⟨S640x1, .i32⟩
  | 57 => ⟨S640x1, .i32⟩
  | 58 => ⟨S640x2, .i32⟩
  | 59 => ⟨S640, .f32⟩
  | 60 => ⟨S640x1, .f32⟩
  | 61 => ⟨S_, .f32⟩
  | 62 => ⟨S1, .f32⟩
  | 63 => ⟨S_, .f32⟩
  | 64 => ⟨S1, .f32⟩
  | 65 => ⟨S1, .f32⟩
  | 66 => ⟨S1x1, .f32⟩
  | 67 => ⟨S640x1, .f32⟩
  | 68 => ⟨S640x1, .f32⟩
  | 69 => ⟨S640x1, .f32⟩
  | 70 => ⟨S_, .f32⟩
  | 71 => ⟨S1, .f32⟩
  | 72 => ⟨S1x1, .f32⟩
  | 73 => ⟨S640x1, .f32⟩
  | 74 => ⟨S640x1, .f32⟩
  | 75 => ⟨S640x2048, .f32⟩
  | 76 => ⟨S640x2048, .f32⟩
  | 77 => ⟨S_, .i32⟩
  | 78 => ⟨S640, .i32⟩
  | 79 => ⟨S640, .i1⟩
  | 80 => ⟨S_, .i32⟩
  | 81 => ⟨S640, .i32⟩
  | 82 => ⟨S640, .i32⟩
  | 83 => ⟨S640, .i32⟩
  | 84 => ⟨S640x1, .i32⟩
  | 85 => ⟨S4096x2048, .f32⟩
  | 86 => ⟨S1x640, .i32⟩
  | 87 => ⟨S640, .i32⟩
  | 88 => ⟨S_, .i32⟩
  | 89 => ⟨S640, .i32⟩
  | 90 => ⟨S640, .i1⟩
  | 91 => ⟨S_, .i32⟩
  | 92 => ⟨S640, .i32⟩
  | 93 => ⟨S640, .i32⟩
  | 94 => ⟨S640, .i32⟩
  | 95 => ⟨S640x1, .i32⟩
  | 96 => ⟨S640x2048, .f32⟩
  | 97 => ⟨S1x8192x2048, .f32⟩
  | 98 => ⟨S8192x2048, .f32⟩
  | 99 => ⟨S2048x8192, .f32⟩
  | 100 => ⟨S640x8192, .f32⟩
  | 101 => ⟨S640x8192, .f32⟩
  | 102 => ⟨S640x8192, .f32⟩
  | 103 => ⟨S_, .f32⟩
  | 104 => ⟨S640x8192, .f32⟩
  | 105 => ⟨S640x8192, .f32⟩
  | 106 => ⟨S_, .f32⟩
  | 107 => ⟨S640x8192, .f32⟩
  | 108 => ⟨S640x8192, .f32⟩
  | 109 => ⟨S640x8192, .f32⟩
  | 110 => ⟨S1x8192x2048, .f32⟩
  | 111 => ⟨S8192x2048, .f32⟩
  | 112 => ⟨S2048x8192, .f32⟩
  | 113 => ⟨S640x8192, .f32⟩
  | 114 => ⟨S640x8192, .f32⟩
  | 115 => ⟨S1x2048x8192, .f32⟩
  | 116 => ⟨S2048x8192, .f32⟩
  | 117 => ⟨S8192x2048, .f32⟩
  | 118 => ⟨S640x2048, .f32⟩
  | 119 => ⟨S_, .i32⟩
  | 120 => ⟨S640, .i32⟩
  | 121 => ⟨S640, .i1⟩
  | 122 => ⟨S_, .i32⟩
  | 123 => ⟨S640, .i32⟩
  | 124 => ⟨S640, .i32⟩
  | 125 => ⟨S640, .i32⟩
  | 126 => ⟨S_, .i32⟩
  | 127 => ⟨S640, .i32⟩
  | _ => ⟨S2x2048x2048, .f32⟩

abbrev hbmTy0_1 (i : Nat) : BufTy := match i % 128 with
  | 0 => ⟨S640, .i32⟩
  | 1 => ⟨S640x1, .i32⟩
  | 2 => ⟨S640x1, .i32⟩
  | 3 => ⟨S640x2, .i32⟩
  | 4 => ⟨S640, .f32⟩
  | 5 => ⟨S640x1, .f32⟩
  | 6 => ⟨S_, .f32⟩
  | 7 => ⟨S1, .f32⟩
  | 8 => ⟨S_, .f32⟩
  | 9 => ⟨S1, .f32⟩
  | 10 => ⟨S1, .f32⟩
  | 11 => ⟨S1x1, .f32⟩
  | 12 => ⟨S640x1, .f32⟩
  | 13 => ⟨S640x1, .f32⟩
  | 14 => ⟨S640x1, .f32⟩
  | 15 => ⟨S_, .f32⟩
  | 16 => ⟨S1, .f32⟩
  | 17 => ⟨S1x1, .f32⟩
  | 18 => ⟨S640x1, .f32⟩
  | 19 => ⟨S640x1, .f32⟩
  | 20 => ⟨S640x2048, .f32⟩
  | 21 => ⟨S640x2048, .f32⟩
  | 22 => ⟨S_, .i32⟩
  | 23 => ⟨S640, .i32⟩
  | 24 => ⟨S640, .i1⟩
  | 25 => ⟨S_, .i32⟩
  | 26 => ⟨S640, .i32⟩
  | 27 => ⟨S640, .i32⟩
  | 28 => ⟨S640, .i32⟩
  | 29 => ⟨S640x1, .i32⟩
  | 30 => ⟨S4096x2048, .f32⟩
  | 31 => ⟨S1x640, .i32⟩
  | 32 => ⟨S640, .i32⟩
  | 33 => ⟨S_, .i32⟩
  | 34 => ⟨S640, .i32⟩
  | 35 => ⟨S640, .i1⟩
  | 36 => ⟨S_, .i32⟩
  | 37 => ⟨S640, .i32⟩
  | 38 => ⟨S640, .i32⟩
  | 39 => ⟨S640, .i32⟩
  | 40 => ⟨S640x1, .i32⟩
  | 41 => ⟨S640x2048, .f32⟩
  | 42 => ⟨S1x8192x2048, .f32⟩
  | 43 => ⟨S8192x2048, .f32⟩
  | 44 => ⟨S2048x8192, .f32⟩
  | 45 => ⟨S640x8192, .f32⟩
  | 46 => ⟨S640x8192, .f32⟩
  | 47 => ⟨S640x8192, .f32⟩
  | 48 => ⟨S_, .f32⟩
  | 49 => ⟨S640x8192, .f32⟩
  | 50 => ⟨S640x8192, .f32⟩
  | 51 => ⟨S_, .f32⟩
  | 52 => ⟨S640x8192, .f32⟩
  | 53 => ⟨S640x8192, .f32⟩
  | 54 => ⟨S640x8192, .f32⟩
  | 55 => ⟨S1x8192x2048, .f32⟩
  | 56 => ⟨S8192x2048, .f32⟩
  | 57 => ⟨S2048x8192, .f32⟩
  | 58 => ⟨S640x8192, .f32⟩
  | 59 => ⟨S640x8192, .f32⟩
  | 60 => ⟨S1x2048x8192, .f32⟩
  | 61 => ⟨S2048x8192, .f32⟩
  | 62 => ⟨S8192x2048, .f32⟩
  | 63 => ⟨S640x2048, .f32⟩
  | 64 => ⟨S_, .i32⟩
  | 65 => ⟨S640, .i32⟩
  | 66 => ⟨S640, .i1⟩
  | 67 => ⟨S_, .i32⟩
  | 68 => ⟨S640, .i32⟩
  | 69 => ⟨S640, .i32⟩
  | 70 => ⟨S640, .i32⟩
  | 71 => ⟨S_, .i32⟩
  | 72 => ⟨S640, .i32⟩
  | 73 => ⟨S640, .i32⟩
  | 74 => ⟨S640x1, .i32⟩
  | 75 => ⟨S640x1, .i32⟩
  | 76 => ⟨S640x2, .i32⟩
  | 77 => ⟨S640, .f32⟩
  | 78 => ⟨S640x1, .f32⟩
  | 79 => ⟨S_, .f32⟩
  | 80 => ⟨S1, .f32⟩
  | 81 => ⟨S_, .f32⟩
  | 82 => ⟨S1, .f32⟩
  | 83 => ⟨S1, .f32⟩
  | 84 => ⟨S1x1, .f32⟩
  | 85 => ⟨S640x1, .f32⟩
  | 86 => ⟨S640x1, .f32⟩
  | 87 => ⟨S640x1, .f32⟩
  | 88 => ⟨S_, .f32⟩
  | 89 => ⟨S1, .f32⟩
  | 90 => ⟨S1x1, .f32⟩
  | 91 => ⟨S640x1, .f32⟩
  | 92 => ⟨S640x1, .f32⟩
  | 93 => ⟨S640x2048, .f32⟩
  | 94 => ⟨S640x2048, .f32⟩
  | 95 => ⟨S_, .i32⟩
  | 96 => ⟨S640, .i32⟩
  | 97 => ⟨S640, .i1⟩
  | 98 => ⟨S_, .i32⟩
  | 99 => ⟨S640, .i32⟩
  | 100 => ⟨S640, .i32⟩
  | 101 => ⟨S640, .i32⟩
  | 102 => ⟨S640x1, .i32⟩
  | 103 => ⟨S4096x2048, .f32⟩
  | 104 => ⟨S1x640, .i32⟩
  | 105 => ⟨S640, .i32⟩
  | 106 => ⟨S_, .i32⟩
  | 107 => ⟨S640, .i32⟩
  | 108 => ⟨S640, .i1⟩
  | 109 => ⟨S_, .i32⟩
  | 110 => ⟨S640, .i32⟩
  | 111 => ⟨S640, .i32⟩
  | 112 => ⟨S640, .i32⟩
  | 113 => ⟨S640x1, .i32⟩
  | 114 => ⟨S640x2048, .f32⟩
  | 115 => ⟨S1x8192x2048, .f32⟩
  | 116 => ⟨S8192x2048, .f32⟩
  | 117 => ⟨S2048x8192, .f32⟩
  | 118 => ⟨S640x8192, .f32⟩
  | 119 => ⟨S640x8192, .f32⟩
  | 120 => ⟨S640x8192, .f32⟩
  | 121 => ⟨S_, .f32⟩
  | 122 => ⟨S640x8192, .f32⟩
  | 123 => ⟨S640x8192, .f32⟩
  | 124 => ⟨S_, .f32⟩
  | 125 => ⟨S640x8192, .f32⟩
  | 126 => ⟨S640x8192, .f32⟩
  | 127 => ⟨S640x8192, .f32⟩
  | _ => ⟨S2x2048x2048, .f32⟩

abbrev hbmTy0_2 (i : Nat) : BufTy := match i % 128 with
  | 0 => ⟨S1x8192x2048, .f32⟩
  | 1 => ⟨S8192x2048, .f32⟩
  | 2 => ⟨S2048x8192, .f32⟩
  | 3 => ⟨S640x8192, .f32⟩
  | 4 => ⟨S640x8192, .f32⟩
  | 5 => ⟨S1x2048x8192, .f32⟩
  | 6 => ⟨S2048x8192, .f32⟩
  | 7 => ⟨S8192x2048, .f32⟩
  | 8 => ⟨S640x2048, .f32⟩
  | 9 => ⟨S_, .i32⟩
  | 10 => ⟨S640, .i32⟩
  | 11 => ⟨S640, .i1⟩
  | 12 => ⟨S_, .i32⟩
  | 13 => ⟨S640, .i32⟩
  | 14 => ⟨S640, .i32⟩
  | 15 => ⟨S640, .i32⟩
  | 16 => ⟨S_, .i32⟩
  | 17 => ⟨S640, .i32⟩
  | 18 => ⟨S640, .i32⟩
  | 19 => ⟨S640x1, .i32⟩
  | 20 => ⟨S640x1, .i32⟩
  | 21 => ⟨S640x2, .i32⟩
  | 22 => ⟨S640, .f32⟩
  | 23 => ⟨S640x1, .f32⟩
  | 24 => ⟨S_, .f32⟩
  | 25 => ⟨S1, .f32⟩
  | 26 => ⟨S_, .f32⟩
  | 27 => ⟨S1, .f32⟩
  | 28 => ⟨S1, .f32⟩
  | 29 => ⟨S1x1, .f32⟩
  | 30 => ⟨S640x1, .f32⟩
  | 31 => ⟨S640x1, .f32⟩
  | 32 => ⟨S640x1, .f32⟩
  | 33 => ⟨S_, .f32⟩
  | 34 => ⟨S1, .f32⟩
  | 35 => ⟨S1x1, .f32⟩
  | 36 => ⟨S640x1, .f32⟩
  | 37 => ⟨S640x1, .f32⟩
  | 38 => ⟨S640x2048, .f32⟩
  | 39 => ⟨S640x2048, .f32⟩
  | 40 => ⟨S_, .i32⟩
  | 41 => ⟨S640, .i32⟩
  | 42 => ⟨S640, .i1⟩
  | 43 => ⟨S_, .i32⟩
  | 44 => ⟨S640, .i32⟩
  | 45 => ⟨S640, .i32⟩
  | 46 => ⟨S640, .i32⟩
  | 47 => ⟨S640x1, .i32⟩
  | 48 => ⟨S4096x2048, .f32⟩
  | 49 => ⟨S1x640, .i32⟩
  | 50 => ⟨S640, .i32⟩
  | 51 => ⟨S_, .i32⟩
  | 52 => ⟨S640, .i32⟩
  | 53 => ⟨S640, .i1⟩
  | 54 => ⟨S_, .i32⟩
  | 55 => ⟨S640, .i32⟩
  | 56 => ⟨S640, .i32⟩
  | 57 => ⟨S640, .i32⟩
  | 58 => ⟨S640x1, .i32⟩
  | 59 => ⟨S640x2048, .f32⟩
  | 60 => ⟨S1x8192x2048, .f32⟩
  | 61 => ⟨S8192x2048, .f32⟩
  | 62 => ⟨S2048x8192, .f32⟩
  | 63 => ⟨S640x8192, .f32⟩
  | 64 => ⟨S640x8192, .f32⟩
  | 65 => ⟨S640x8192, .f32⟩
  | 66 => ⟨S_, .f32⟩
  | 67 => ⟨S640x8192, .f32⟩
  | 68 => ⟨S640x8192, .f32⟩
  | 69 => ⟨S_, .f32⟩
  | 70 => ⟨S640x8192, .f32⟩
  | 71 => ⟨S640x8192, .f32⟩
  | 72 => ⟨S640x8192, .f32⟩
  | 73 => ⟨S1x8192x2048, .f32⟩
  | 74 => ⟨S8192x2048, .f32⟩
  | 75 => ⟨S2048x8192, .f32⟩
  | 76 => ⟨S640x8192, .f32⟩
  | 77 => ⟨S640x8192, .f32⟩
  | 78 => ⟨S1x2048x8192, .f32⟩
  | 79 => ⟨S2048x8192, .f32⟩
  | 80 => ⟨S8192x2048, .f32⟩
  | 81 => ⟨S640x2048, .f32⟩
  | 82 => ⟨S_, .i32⟩
  | 83 => ⟨S640, .i32⟩
  | 84 => ⟨S640, .i1⟩
  | 85 => ⟨S_, .i32⟩
  | 86 => ⟨S640, .i32⟩
  | 87 => ⟨S640, .i32⟩
  | 88 => ⟨S640, .i32⟩
  | 89 => ⟨S_, .i32⟩
  | 90 => ⟨S640, .i32⟩
  | 91 => ⟨S640, .i32⟩
  | 92 => ⟨S640x1, .i32⟩
  | 93 => ⟨S640x1, .i32⟩
  | 94 => ⟨S640x2, .i32⟩
  | 95 => ⟨S640, .f32⟩
  | 96 => ⟨S640x1, .f32⟩
  | 97 => ⟨S_, .f32⟩
  | 98 => ⟨S1, .f32⟩
  | 99 => ⟨S_, .f32⟩
  | 100 => ⟨S1, .f32⟩
  | 101 => ⟨S1, .f32⟩
  | 102 => ⟨S1x1, .f32⟩
  | 103 => ⟨S640x1, .f32⟩
  | 104 => ⟨S640x1, .f32⟩
  | 105 => ⟨S640x1, .f32⟩
  | 106 => ⟨S_, .f32⟩
  | 107 => ⟨S1, .f32⟩
  | 108 => ⟨S1x1, .f32⟩
  | 109 => ⟨S640x1, .f32⟩
  | 110 => ⟨S640x1, .f32⟩
  | 111 => ⟨S640x2048, .f32⟩
  | 112 => ⟨S640x2048, .f32⟩
  | 113 => ⟨S_, .i32⟩
  | 114 => ⟨S640, .i32⟩
  | 115 => ⟨S640, .i1⟩
  | 116 => ⟨S_, .i32⟩
  | 117 => ⟨S640, .i32⟩
  | 118 => ⟨S640, .i32⟩
  | 119 => ⟨S640, .i32⟩
  | 120 => ⟨S640x1, .i32⟩
  | 121 => ⟨S4096x2048, .f32⟩
  | 122 => ⟨S1x640, .i32⟩
  | 123 => ⟨S640, .i32⟩
  | 124 => ⟨S_, .i32⟩
  | 125 => ⟨S640, .i32⟩
  | 126 => ⟨S640, .i1⟩
  | 127 => ⟨S_, .i32⟩
  | _ => ⟨S2x2048x2048, .f32⟩

abbrev hbmTy0_3 (i : Nat) : BufTy := match i % 128 with
  | 0 => ⟨S640, .i32⟩
  | 1 => ⟨S640, .i32⟩
  | 2 => ⟨S640, .i32⟩
  | 3 => ⟨S640x1, .i32⟩
  | 4 => ⟨S640x2048, .f32⟩
  | 5 => ⟨S1x8192x2048, .f32⟩
  | 6 => ⟨S8192x2048, .f32⟩
  | 7 => ⟨S2048x8192, .f32⟩
  | 8 => ⟨S640x8192, .f32⟩
  | 9 => ⟨S640x8192, .f32⟩
  | 10 => ⟨S640x8192, .f32⟩
  | 11 => ⟨S_, .f32⟩
  | 12 => ⟨S640x8192, .f32⟩
  | 13 => ⟨S640x8192, .f32⟩
  | 14 => ⟨S_, .f32⟩
  | 15 => ⟨S640x8192, .f32⟩
  | 16 => ⟨S640x8192, .f32⟩
  | 17 => ⟨S640x8192, .f32⟩
  | 18 => ⟨S1x8192x2048, .f32⟩
  | 19 => ⟨S8192x2048, .f32⟩
  | 20 => ⟨S2048x8192, .f32⟩
  | 21 => ⟨S640x8192, .f32⟩
  | 22 => ⟨S640x8192, .f32⟩
  | 23 => ⟨S1x2048x8192, .f32⟩
  | 24 => ⟨S2048x8192, .f32⟩
  | 25 => ⟨S8192x2048, .f32⟩
  | 26 => ⟨S640x2048, .f32⟩
  | 27 => ⟨S_, .i32⟩
  | 28 => ⟨S640, .i32⟩
  | 29 => ⟨S640, .i1⟩
  | 30 => ⟨S_, .i32⟩
  | 31 => ⟨S640, .i32⟩
  | 32 => ⟨S640, .i32⟩
  | 33 => ⟨S640, .i32⟩
  | 34 => ⟨S_, .i32⟩
  | 35 => ⟨S640, .i32⟩
  | 36 => ⟨S640, .i32⟩
  | 37 => ⟨S640x1, .i32⟩
  | 38 => ⟨S640x1, .i32⟩
  | 39 => ⟨S640x2, .i32⟩
  | 40 => ⟨S640, .f32⟩
  | 41 => ⟨S640x1, .f32⟩
  | 42 => ⟨S_, .f32⟩
  | 43 => ⟨S1, .f32⟩
  | 44 => ⟨S_, .f32⟩
  | 45 => ⟨S1, .f32⟩
  | 46 => ⟨S1, .f32⟩
  | 47 => ⟨S1x1, .f32⟩
  | 48 => ⟨S640x1, .f32⟩
  | 49 => ⟨S640x1, .f32⟩
  | 50 => ⟨S640x1, .f32⟩
  | 51 => ⟨S_, .f32⟩
  | 52 => ⟨S1, .f32⟩
  | 53 => ⟨S1x1, .f32⟩
  | 54 => ⟨S640x1, .f32⟩
  | 55 => ⟨S640x1, .f32⟩
  | 56 => ⟨S640x2048, .f32⟩
  | 57 => ⟨S640x2048, .f32⟩
  | 58 => ⟨S_, .i32⟩
  | 59 => ⟨S640, .i32⟩
  | 60 => ⟨S640, .i1⟩
  | 61 => ⟨S_, .i32⟩
  | 62 => ⟨S640, .i32⟩
  | 63 => ⟨S640, .i32⟩
  | 64 => ⟨S640, .i32⟩
  | 65 => ⟨S640x1, .i32⟩
  | 66 => ⟨S4096x2048, .f32⟩
  | 67 => ⟨S1x640, .i32⟩
  | 68 => ⟨S640, .i32⟩
  | 69 => ⟨S_, .i32⟩
  | 70 => ⟨S640, .i32⟩
  | 71 => ⟨S640, .i1⟩
  | 72 => ⟨S_, .i32⟩
  | 73 => ⟨S640, .i32⟩
  | 74 => ⟨S640, .i32⟩
  | 75 => ⟨S640, .i32⟩
  | 76 => ⟨S640x1, .i32⟩
  | 77 => ⟨S640x2048, .f32⟩
  | 78 => ⟨S1x8192x2048, .f32⟩
  | 79 => ⟨S8192x2048, .f32⟩
  | 80 => ⟨S2048x8192, .f32⟩
  | 81 => ⟨S640x8192, .f32⟩
  | 82 => ⟨S640x8192, .f32⟩
  | 83 => ⟨S640x8192, .f32⟩
  | 84 => ⟨S_, .f32⟩
  | 85 => ⟨S640x8192, .f32⟩
  | 86 => ⟨S640x8192, .f32⟩
  | 87 => ⟨S_, .f32⟩
  | 88 => ⟨S640x8192, .f32⟩
  | 89 => ⟨S640x8192, .f32⟩
  | 90 => ⟨S640x8192, .f32⟩
  | 91 => ⟨S1x8192x2048, .f32⟩
  | 92 => ⟨S8192x2048, .f32⟩
  | 93 => ⟨S2048x8192, .f32⟩
  | 94 => ⟨S640x8192, .f32⟩
  | 95 => ⟨S640x8192, .f32⟩
  | 96 => ⟨S1x2048x8192, .f32⟩
  | 97 => ⟨S2048x8192, .f32⟩
  | 98 => ⟨S8192x2048, .f32⟩
  | 99 => ⟨S640x2048, .f32⟩
  | 100 => ⟨S_, .i32⟩
  | 101 => ⟨S640, .i32⟩
  | 102 => ⟨S640, .i1⟩
  | 103 => ⟨S_, .i32⟩
  | 104 => ⟨S640, .i32⟩
  | 105 => ⟨S640, .i32⟩
  | 106 => ⟨S640, .i32⟩
  | 107 => ⟨S_, .i32⟩
  | 108 => ⟨S640, .i32⟩
  | 109 => ⟨S640, .i32⟩
  | 110 => ⟨S640x1, .i32⟩
  | 111 => ⟨S640x1, .i32⟩
  | 112 => ⟨S640x2, .i32⟩
  | 113 => ⟨S640, .f32⟩
  | 114 => ⟨S640x1, .f32⟩
  | 115 => ⟨S_, .f32⟩
  | 116 => ⟨S1, .f32⟩
  | 117 => ⟨S_, .f32⟩
  | 118 => ⟨S1, .f32⟩
  | 119 => ⟨S1, .f32⟩
  | 120 => ⟨S1x1, .f32⟩
  | 121 => ⟨S640x1, .f32⟩
  | 122 => ⟨S640x1, .f32⟩
  | 123 => ⟨S640x1, .f32⟩
  | 124 => ⟨S_, .f32⟩
  | 125 => ⟨S1, .f32⟩
  | 126 => ⟨S1x1, .f32⟩
  | 127 => ⟨S640x1, .f32⟩
  | _ => ⟨S2x2048x2048, .f32⟩

abbrev hbmTy0_4 (i : Nat) : BufTy := match i % 128 with
  | 0 => ⟨S640x1, .f32⟩
  | 1 => ⟨S640x2048, .f32⟩
  | 2 => ⟨S640x2048, .f32⟩
  | 3 => ⟨S_, .i32⟩
  | 4 => ⟨S640, .i32⟩
  | 5 => ⟨S640, .i1⟩
  | 6 => ⟨S_, .i32⟩
  | 7 => ⟨S640, .i32⟩
  | 8 => ⟨S640, .i32⟩
  | 9 => ⟨S640, .i32⟩
  | 10 => ⟨S640x1, .i32⟩
  | 11 => ⟨S4096x2048, .f32⟩
  | 12 => ⟨S1x640, .i32⟩
  | 13 => ⟨S640, .i32⟩
  | 14 => ⟨S_, .i32⟩
  | 15 => ⟨S640, .i32⟩
  | 16 => ⟨S640, .i1⟩
  | 17 => ⟨S_, .i32⟩
  | 18 => ⟨S640, .i32⟩
  | 19 => ⟨S640, .i32⟩
  | 20 => ⟨S640, .i32⟩
  | 21 => ⟨S640x1, .i32⟩
  | 22 => ⟨S640x2048, .f32⟩
  | 23 => ⟨S1x8192x2048, .f32⟩
  | 24 => ⟨S8192x2048, .f32⟩
  | 25 => ⟨S2048x8192, .f32⟩
  | 26 => ⟨S640x8192, .f32⟩
  | 27 => ⟨S640x8192, .f32⟩
  | 28 => ⟨S640x8192, .f32⟩
  | 29 => ⟨S_, .f32⟩
  | 30 => ⟨S640x8192, .f32⟩
  | 31 => ⟨S640x8192, .f32⟩
  | 32 => ⟨S_, .f32⟩
  | 33 => ⟨S640x8192, .f32⟩
  | 34 => ⟨S640x8192, .f32⟩
  | 35 => ⟨S640x8192, .f32⟩
  | 36 => ⟨S1x8192x2048, .f32⟩
  | 37 => ⟨S8192x2048, .f32⟩
  | 38 => ⟨S2048x8192, .f32⟩
  | 39 => ⟨S640x8192, .f32⟩
  | 40 => ⟨S640x8192, .f32⟩
  | 41 => ⟨S1x2048x8192, .f32⟩
  | 42 => ⟨S2048x8192, .f32⟩
  | 43 => ⟨S8192x2048, .f32⟩
  | 44 => ⟨S640x2048, .f32⟩
  | 45 => ⟨S_, .i32⟩
  | 46 => ⟨S640, .i32⟩
  | 47 => ⟨S640, .i1⟩
  | 48 => ⟨S_, .i32⟩
  | 49 => ⟨S640, .i32⟩
  | 50 => ⟨S640, .i32⟩
  | 51 => ⟨S640, .i32⟩
  | 52 => ⟨S_, .i32⟩
  | 53 => ⟨S640, .i32⟩
  | 54 => ⟨S640, .i32⟩
  | 55 => ⟨S640x1, .i32⟩
  | 56 => ⟨S640x1, .i32⟩
  | 57 => ⟨S640x2, .i32⟩
  | 58 => ⟨S640, .f32⟩
  | 59 => ⟨S640x1, .f32⟩
  | 60 => ⟨S_, .f32⟩
  | 61 => ⟨S1, .f32⟩
  | 62 => ⟨S_, .f32⟩
  | 63 => ⟨S1, .f32⟩
  | 64 => ⟨S1, .f32⟩
  | 65 => ⟨S1x1, .f32⟩
  | 66 => ⟨S640x1, .f32⟩
  | 67 => ⟨S640x1, .f32⟩
  | 68 => ⟨S640x1, .f32⟩
  | 69 => ⟨S_, .f32⟩
  | 70 => ⟨S1, .f32⟩
  | 71 => ⟨S1x1, .f32⟩
  | 72 => ⟨S640x1, .f32⟩
  | 73 => ⟨S640x1, .f32⟩
  | 74 => ⟨S640x2048, .f32⟩
  | 75 => ⟨S640x2048, .f32⟩
  | 76 => ⟨S_, .i32⟩
  | 77 => ⟨S640, .i32⟩
  | 78 => ⟨S640, .i1⟩
  | 79 => ⟨S_, .i32⟩
  | 80 => ⟨S640, .i32⟩
  | 81 => ⟨S640, .i32⟩
  | 82 => ⟨S640, .i32⟩
  | 83 => ⟨S640x1, .i32⟩
  | 84 => ⟨S4096x2048, .f32⟩
  | 85 => ⟨S2x2048x2048, .f32⟩
  | 86 => ⟨S_, .f32⟩
  | _ => ⟨S2x2048x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_1 : Ref sig .tc := ⟨.hbm, 46, rfl⟩
abbrev main_v28 : Ref sig .tc := ⟨.hbm, 47, rfl⟩
abbrev main_v29 : Ref sig .tc := ⟨.hbm, 48, rfl⟩
abbrev main_c_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_7 : Ref sig .tc := ⟨.hbm, 77, rfl⟩
abbrev main_v53 : Ref sig .tc := ⟨.hbm, 78, rfl⟩
abbrev main_v54 : Ref sig .tc := ⟨.hbm, 79, rfl⟩
abbrev main_c_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_9 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_11 : Ref sig .tc := ⟨.hbm, 119, rfl⟩
abbrev main_v83 : Ref sig .tc := ⟨.hbm, 120, rfl⟩
abbrev main_v84 : Ref sig .tc := ⟨.hbm, 121, rfl⟩
abbrev main_c_12 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_13 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_14 : Ref sig .tc := ⟨.hbm, 134, rfl⟩
abbrev main_v95 : Ref sig .tc := ⟨.hbm, 135, rfl⟩
abbrev main_cst_15 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_16 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_17 : Ref sig .tc := ⟨.hbm, 150, rfl⟩
abbrev main_v108 : Ref sig .tc := ⟨.hbm, 151, rfl⟩
abbrev main_v109 : Ref sig .tc := ⟨.hbm, 152, rfl⟩
abbrev main_c_18 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_19 : Ref sig .tc := ⟨.hbm, 161, rfl⟩
abbrev main_v117 : Ref sig .tc := ⟨.hbm, 162, rfl⟩
abbrev main_v118 : Ref sig .tc := ⟨.hbm, 163, rfl⟩
abbrev main_c_20 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_call2_v0 : Ref sig .tc := ⟨.hbm, 174, rfl⟩
abbrev main_call2_v1 : Ref sig .tc := ⟨.hbm, 175, rfl⟩
abbrev main_call2_cst : Ref sig .tc := ⟨.hbm, 176, rfl⟩
abbrev main_call2_v2 : Ref sig .tc := ⟨.hbm, 177, rfl⟩
abbrev main_call2_v3 : Ref sig .tc := ⟨.hbm, 178, rfl⟩
abbrev main_call2_cst_0 : Ref sig .tc := ⟨.hbm, 179, rfl⟩
abbrev main_call2_v4 : Ref sig .tc := ⟨.hbm, 180, rfl⟩
abbrev main_call2_v5 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_c_21 : Ref sig .tc := ⟨.hbm, 192, rfl⟩
abbrev main_v138 : Ref sig .tc := ⟨.hbm, 193, rfl⟩
abbrev main_v139 : Ref sig .tc := ⟨.hbm, 194, rfl⟩
abbrev main_c_22 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_c_23 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_24 : Ref sig .tc := ⟨.hbm, 207, rfl⟩
abbrev main_v150 : Ref sig .tc := ⟨.hbm, 208, rfl⟩
abbrev main_cst_25 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_26 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_c_27 : Ref sig .tc := ⟨.hbm, 223, rfl⟩
abbrev main_v163 : Ref sig .tc := ⟨.hbm, 224, rfl⟩
abbrev main_v164 : Ref sig .tc := ⟨.hbm, 225, rfl⟩
abbrev main_c_28 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_c_29 : Ref sig .tc := ⟨.hbm, 234, rfl⟩
abbrev main_v172 : Ref sig .tc := ⟨.hbm, 235, rfl⟩
abbrev main_v173 : Ref sig .tc := ⟨.hbm, 236, rfl⟩
abbrev main_c_30 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_call3_v0 : Ref sig .tc := ⟨.hbm, 247, rfl⟩
abbrev main_call3_v1 : Ref sig .tc := ⟨.hbm, 248, rfl⟩
abbrev main_call3_cst : Ref sig .tc := ⟨.hbm, 249, rfl⟩
abbrev main_call3_v2 : Ref sig .tc := ⟨.hbm, 250, rfl⟩
abbrev main_call3_v3 : Ref sig .tc := ⟨.hbm, 251, rfl⟩
abbrev main_call3_cst_0 : Ref sig .tc := ⟨.hbm, 252, rfl⟩
abbrev main_call3_v4 : Ref sig .tc := ⟨.hbm, 253, rfl⟩
abbrev main_call3_v5 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_c_31 : Ref sig .tc := ⟨.hbm, 265, rfl⟩
abbrev main_v193 : Ref sig .tc := ⟨.hbm, 266, rfl⟩
abbrev main_v194 : Ref sig .tc := ⟨.hbm, 267, rfl⟩
abbrev main_c_32 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_c_33 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_cst_34 : Ref sig .tc := ⟨.hbm, 280, rfl⟩
abbrev main_v205 : Ref sig .tc := ⟨.hbm, 281, rfl⟩
abbrev main_cst_35 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_cst_36 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_c_37 : Ref sig .tc := ⟨.hbm, 296, rfl⟩
abbrev main_v218 : Ref sig .tc := ⟨.hbm, 297, rfl⟩
abbrev main_v219 : Ref sig .tc := ⟨.hbm, 298, rfl⟩
abbrev main_c_38 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_c_39 : Ref sig .tc := ⟨.hbm, 307, rfl⟩
abbrev main_v227 : Ref sig .tc := ⟨.hbm, 308, rfl⟩
abbrev main_v228 : Ref sig .tc := ⟨.hbm, 309, rfl⟩
abbrev main_c_40 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_call4_v0 : Ref sig .tc := ⟨.hbm, 320, rfl⟩
abbrev main_call4_v1 : Ref sig .tc := ⟨.hbm, 321, rfl⟩
abbrev main_call4_cst : Ref sig .tc := ⟨.hbm, 322, rfl⟩
abbrev main_call4_v2 : Ref sig .tc := ⟨.hbm, 323, rfl⟩
abbrev main_call4_v3 : Ref sig .tc := ⟨.hbm, 324, rfl⟩
abbrev main_call4_cst_0 : Ref sig .tc := ⟨.hbm, 325, rfl⟩
abbrev main_call4_v4 : Ref sig .tc := ⟨.hbm, 326, rfl⟩
abbrev main_call4_v5 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_c_41 : Ref sig .tc := ⟨.hbm, 338, rfl⟩
abbrev main_v248 : Ref sig .tc := ⟨.hbm, 339, rfl⟩
abbrev main_v249 : Ref sig .tc := ⟨.hbm, 340, rfl⟩
abbrev main_c_42 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_c_43 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_cst_44 : Ref sig .tc := ⟨.hbm, 353, rfl⟩
abbrev main_v260 : Ref sig .tc := ⟨.hbm, 354, rfl⟩
abbrev main_cst_45 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_cst_46 : Ref sig .tc := ⟨.hbm, 362, rfl⟩
abbrev main_v267 : Ref sig .tc := ⟨.hbm, 363, rfl⟩
abbrev main_v268 : Ref sig .tc := ⟨.hbm, 364, rfl⟩
abbrev main_v269 : Ref sig .tc := ⟨.hbm, 365, rfl⟩
abbrev main_v270 : Ref sig .tc := ⟨.hbm, 366, rfl⟩
abbrev main_v271 : Ref sig .tc := ⟨.hbm, 367, rfl⟩
abbrev main_v272 : Ref sig .tc := ⟨.hbm, 368, rfl⟩
abbrev main_c_47 : Ref sig .tc := ⟨.hbm, 369, rfl⟩
abbrev main_v273 : Ref sig .tc := ⟨.hbm, 370, rfl⟩
abbrev main_v274 : Ref sig .tc := ⟨.hbm, 371, rfl⟩
abbrev main_c_48 : Ref sig .tc := ⟨.hbm, 372, rfl⟩
abbrev main_v275 : Ref sig .tc := ⟨.hbm, 373, rfl⟩
abbrev main_v276 : Ref sig .tc := ⟨.hbm, 374, rfl⟩
abbrev main_v277 : Ref sig .tc := ⟨.hbm, 375, rfl⟩
abbrev main_v278 : Ref sig .tc := ⟨.hbm, 376, rfl⟩
abbrev main_v279 : Ref sig .tc := ⟨.hbm, 377, rfl⟩
abbrev main_v280 : Ref sig .tc := ⟨.hbm, 378, rfl⟩
abbrev main_v281 : Ref sig .tc := ⟨.hbm, 379, rfl⟩
abbrev main_c_49 : Ref sig .tc := ⟨.hbm, 380, rfl⟩
abbrev main_v282 : Ref sig .tc := ⟨.hbm, 381, rfl⟩
abbrev main_v283 : Ref sig .tc := ⟨.hbm, 382, rfl⟩
abbrev main_c_50 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_v288 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_call5_v0 : Ref sig .tc := ⟨.hbm, 393, rfl⟩
abbrev main_call5_v1 : Ref sig .tc := ⟨.hbm, 394, rfl⟩
abbrev main_call5_cst : Ref sig .tc := ⟨.hbm, 395, rfl⟩
abbrev main_call5_v2 : Ref sig .tc := ⟨.hbm, 396, rfl⟩
abbrev main_call5_v3 : Ref sig .tc := ⟨.hbm, 397, rfl⟩
abbrev main_call5_cst_0 : Ref sig .tc := ⟨.hbm, 398, rfl⟩
abbrev main_call5_v4 : Ref sig .tc := ⟨.hbm, 399, rfl⟩
abbrev main_call5_v5 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩
abbrev main_v299 : Ref sig .tc := ⟨.hbm, 407, rfl⟩
abbrev main_v300 : Ref sig .tc := ⟨.hbm, 408, rfl⟩
abbrev main_v301 : Ref sig .tc := ⟨.hbm, 409, rfl⟩
abbrev main_v302 : Ref sig .tc := ⟨.hbm, 410, rfl⟩
abbrev main_c_51 : Ref sig .tc := ⟨.hbm, 411, rfl⟩
abbrev main_v303 : Ref sig .tc := ⟨.hbm, 412, rfl⟩
abbrev main_v304 : Ref sig .tc := ⟨.hbm, 413, rfl⟩
abbrev main_c_52 : Ref sig .tc := ⟨.hbm, 414, rfl⟩
abbrev main_v305 : Ref sig .tc := ⟨.hbm, 415, rfl⟩
abbrev main_v306 : Ref sig .tc := ⟨.hbm, 416, rfl⟩
abbrev main_v307 : Ref sig .tc := ⟨.hbm, 417, rfl⟩
abbrev main_c_53 : Ref sig .tc := ⟨.hbm, 418, rfl⟩
abbrev main_v308 : Ref sig .tc := ⟨.hbm, 419, rfl⟩
abbrev main_v309 : Ref sig .tc := ⟨.hbm, 420, rfl⟩
abbrev main_v310 : Ref sig .tc := ⟨.hbm, 421, rfl⟩
abbrev main_v311 : Ref sig .tc := ⟨.hbm, 422, rfl⟩
abbrev main_v312 : Ref sig .tc := ⟨.hbm, 423, rfl⟩
abbrev main_v313 : Ref sig .tc := ⟨.hbm, 424, rfl⟩
abbrev main_v314 : Ref sig .tc := ⟨.hbm, 425, rfl⟩
abbrev main_cst_54 : Ref sig .tc := ⟨.hbm, 426, rfl⟩
abbrev main_v315 : Ref sig .tc := ⟨.hbm, 427, rfl⟩
abbrev main_cst_55 : Ref sig .tc := ⟨.hbm, 428, rfl⟩
abbrev main_v316 : Ref sig .tc := ⟨.hbm, 429, rfl⟩
abbrev main_v317 : Ref sig .tc := ⟨.hbm, 430, rfl⟩
abbrev main_v318 : Ref sig .tc := ⟨.hbm, 431, rfl⟩
abbrev main_v319 : Ref sig .tc := ⟨.hbm, 432, rfl⟩
abbrev main_v320 : Ref sig .tc := ⟨.hbm, 433, rfl⟩
abbrev main_v321 : Ref sig .tc := ⟨.hbm, 434, rfl⟩
abbrev main_cst_56 : Ref sig .tc := ⟨.hbm, 435, rfl⟩
abbrev main_v322 : Ref sig .tc := ⟨.hbm, 436, rfl⟩
abbrev main_v323 : Ref sig .tc := ⟨.hbm, 437, rfl⟩
abbrev main_v324 : Ref sig .tc := ⟨.hbm, 438, rfl⟩
abbrev main_v325 : Ref sig .tc := ⟨.hbm, 439, rfl⟩
abbrev main_v326 : Ref sig .tc := ⟨.hbm, 440, rfl⟩
abbrev main_v327 : Ref sig .tc := ⟨.hbm, 441, rfl⟩
abbrev main_c_57 : Ref sig .tc := ⟨.hbm, 442, rfl⟩
abbrev main_v328 : Ref sig .tc := ⟨.hbm, 443, rfl⟩
abbrev main_v329 : Ref sig .tc := ⟨.hbm, 444, rfl⟩
abbrev main_c_58 : Ref sig .tc := ⟨.hbm, 445, rfl⟩
abbrev main_v330 : Ref sig .tc := ⟨.hbm, 446, rfl⟩
abbrev main_v331 : Ref sig .tc := ⟨.hbm, 447, rfl⟩
abbrev main_v332 : Ref sig .tc := ⟨.hbm, 448, rfl⟩
abbrev main_v333 : Ref sig .tc := ⟨.hbm, 449, rfl⟩
abbrev main_v334 : Ref sig .tc := ⟨.hbm, 450, rfl⟩
abbrev main_v335 : Ref sig .tc := ⟨.hbm, 451, rfl⟩
abbrev main_v336 : Ref sig .tc := ⟨.hbm, 452, rfl⟩
abbrev main_c_59 : Ref sig .tc := ⟨.hbm, 453, rfl⟩
abbrev main_v337 : Ref sig .tc := ⟨.hbm, 454, rfl⟩
abbrev main_v338 : Ref sig .tc := ⟨.hbm, 455, rfl⟩
abbrev main_c_60 : Ref sig .tc := ⟨.hbm, 456, rfl⟩
abbrev main_v339 : Ref sig .tc := ⟨.hbm, 457, rfl⟩
abbrev main_v340 : Ref sig .tc := ⟨.hbm, 458, rfl⟩
abbrev main_v341 : Ref sig .tc := ⟨.hbm, 459, rfl⟩
abbrev main_v342 : Ref sig .tc := ⟨.hbm, 460, rfl⟩
abbrev main_v343 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_v347 : Ref sig .tc := ⟨.hbm, 465, rfl⟩
abbrev main_call6_v0 : Ref sig .tc := ⟨.hbm, 466, rfl⟩
abbrev main_call6_v1 : Ref sig .tc := ⟨.hbm, 467, rfl⟩
abbrev main_call6_cst : Ref sig .tc := ⟨.hbm, 468, rfl⟩
abbrev main_call6_v2 : Ref sig .tc := ⟨.hbm, 469, rfl⟩
abbrev main_call6_v3 : Ref sig .tc := ⟨.hbm, 470, rfl⟩
abbrev main_call6_cst_0 : Ref sig .tc := ⟨.hbm, 471, rfl⟩
abbrev main_call6_v4 : Ref sig .tc := ⟨.hbm, 472, rfl⟩
abbrev main_call6_v5 : Ref sig .tc := ⟨.hbm, 473, rfl⟩
abbrev main_v348 : Ref sig .tc := ⟨.hbm, 474, rfl⟩
abbrev main_v349 : Ref sig .tc := ⟨.hbm, 475, rfl⟩
abbrev main_v350 : Ref sig .tc := ⟨.hbm, 476, rfl⟩
abbrev main_v351 : Ref sig .tc := ⟨.hbm, 477, rfl⟩
abbrev main_v352 : Ref sig .tc := ⟨.hbm, 478, rfl⟩
abbrev main_v353 : Ref sig .tc := ⟨.hbm, 479, rfl⟩
abbrev main_v354 : Ref sig .tc := ⟨.hbm, 480, rfl⟩
abbrev main_v355 : Ref sig .tc := ⟨.hbm, 481, rfl⟩
abbrev main_v356 : Ref sig .tc := ⟨.hbm, 482, rfl⟩
abbrev main_v357 : Ref sig .tc := ⟨.hbm, 483, rfl⟩
abbrev main_c_61 : Ref sig .tc := ⟨.hbm, 484, rfl⟩
abbrev main_v358 : Ref sig .tc := ⟨.hbm, 485, rfl⟩
abbrev main_v359 : Ref sig .tc := ⟨.hbm, 486, rfl⟩
abbrev main_c_62 : Ref sig .tc := ⟨.hbm, 487, rfl⟩
abbrev main_v360 : Ref sig .tc := ⟨.hbm, 488, rfl⟩
abbrev main_v361 : Ref sig .tc := ⟨.hbm, 489, rfl⟩
abbrev main_v362 : Ref sig .tc := ⟨.hbm, 490, rfl⟩
abbrev main_c_63 : Ref sig .tc := ⟨.hbm, 491, rfl⟩
abbrev main_v363 : Ref sig .tc := ⟨.hbm, 492, rfl⟩
abbrev main_v364 : Ref sig .tc := ⟨.hbm, 493, rfl⟩
abbrev main_v365 : Ref sig .tc := ⟨.hbm, 494, rfl⟩
abbrev main_v366 : Ref sig .tc := ⟨.hbm, 495, rfl⟩
abbrev main_v367 : Ref sig .tc := ⟨.hbm, 496, rfl⟩
abbrev main_v368 : Ref sig .tc := ⟨.hbm, 497, rfl⟩
abbrev main_v369 : Ref sig .tc := ⟨.hbm, 498, rfl⟩
abbrev main_cst_64 : Ref sig .tc := ⟨.hbm, 499, rfl⟩
abbrev main_v370 : Ref sig .tc := ⟨.hbm, 500, rfl⟩
abbrev main_cst_65 : Ref sig .tc := ⟨.hbm, 501, rfl⟩
abbrev main_v371 : Ref sig .tc := ⟨.hbm, 502, rfl⟩
abbrev main_v372 : Ref sig .tc := ⟨.hbm, 503, rfl⟩
abbrev main_v373 : Ref sig .tc := ⟨.hbm, 504, rfl⟩
abbrev main_v374 : Ref sig .tc := ⟨.hbm, 505, rfl⟩
abbrev main_v375 : Ref sig .tc := ⟨.hbm, 506, rfl⟩
abbrev main_v376 : Ref sig .tc := ⟨.hbm, 507, rfl⟩
abbrev main_cst_66 : Ref sig .tc := ⟨.hbm, 508, rfl⟩
abbrev main_v377 : Ref sig .tc := ⟨.hbm, 509, rfl⟩
abbrev main_v378 : Ref sig .tc := ⟨.hbm, 510, rfl⟩
abbrev main_v379 : Ref sig .tc := ⟨.hbm, 511, rfl⟩
abbrev main_v380 : Ref sig .tc := ⟨.hbm, 512, rfl⟩
abbrev main_v381 : Ref sig .tc := ⟨.hbm, 513, rfl⟩
abbrev main_v382 : Ref sig .tc := ⟨.hbm, 514, rfl⟩
abbrev main_c_67 : Ref sig .tc := ⟨.hbm, 515, rfl⟩
abbrev main_v383 : Ref sig .tc := ⟨.hbm, 516, rfl⟩
abbrev main_v384 : Ref sig .tc := ⟨.hbm, 517, rfl⟩
abbrev main_c_68 : Ref sig .tc := ⟨.hbm, 518, rfl⟩
abbrev main_v385 : Ref sig .tc := ⟨.hbm, 519, rfl⟩
abbrev main_v386 : Ref sig .tc := ⟨.hbm, 520, rfl⟩
abbrev main_v387 : Ref sig .tc := ⟨.hbm, 521, rfl⟩
abbrev main_v388 : Ref sig .tc := ⟨.hbm, 522, rfl⟩
abbrev main_v389 : Ref sig .tc := ⟨.hbm, 523, rfl⟩
abbrev main_v390 : Ref sig .tc := ⟨.hbm, 524, rfl⟩
abbrev main_v391 : Ref sig .tc := ⟨.hbm, 525, rfl⟩
abbrev main_c_69 : Ref sig .tc := ⟨.hbm, 526, rfl⟩
abbrev main_v392 : Ref sig .tc := ⟨.hbm, 527, rfl⟩
abbrev main_v393 : Ref sig .tc := ⟨.hbm, 528, rfl⟩
abbrev main_c_70 : Ref sig .tc := ⟨.hbm, 529, rfl⟩
abbrev main_v394 : Ref sig .tc := ⟨.hbm, 530, rfl⟩
abbrev main_v395 : Ref sig .tc := ⟨.hbm, 531, rfl⟩
abbrev main_v396 : Ref sig .tc := ⟨.hbm, 532, rfl⟩
abbrev main_v397 : Ref sig .tc := ⟨.hbm, 533, rfl⟩
abbrev main_v398 : Ref sig .tc := ⟨.hbm, 534, rfl⟩
abbrev main_v399 : Ref sig .tc := ⟨.hbm, 535, rfl⟩
abbrev main_v400 : Ref sig .tc := ⟨.hbm, 536, rfl⟩
abbrev main_v401 : Ref sig .tc := ⟨.hbm, 537, rfl⟩
abbrev main_v402 : Ref sig .tc := ⟨.hbm, 538, rfl⟩
abbrev main_call7_v0 : Ref sig .tc := ⟨.hbm, 539, rfl⟩
abbrev main_call7_v1 : Ref sig .tc := ⟨.hbm, 540, rfl⟩
abbrev main_call7_cst : Ref sig .tc := ⟨.hbm, 541, rfl⟩
abbrev main_call7_v2 : Ref sig .tc := ⟨.hbm, 542, rfl⟩
abbrev main_call7_v3 : Ref sig .tc := ⟨.hbm, 543, rfl⟩
abbrev main_call7_cst_0 : Ref sig .tc := ⟨.hbm, 544, rfl⟩
abbrev main_call7_v4 : Ref sig .tc := ⟨.hbm, 545, rfl⟩
abbrev main_call7_v5 : Ref sig .tc := ⟨.hbm, 546, rfl⟩
abbrev main_v403 : Ref sig .tc := ⟨.hbm, 547, rfl⟩
abbrev main_v404 : Ref sig .tc := ⟨.hbm, 548, rfl⟩
abbrev main_v405 : Ref sig .tc := ⟨.hbm, 549, rfl⟩
abbrev main_v406 : Ref sig .tc := ⟨.hbm, 550, rfl⟩
abbrev main_v407 : Ref sig .tc := ⟨.hbm, 551, rfl⟩
abbrev main_v408 : Ref sig .tc := ⟨.hbm, 552, rfl⟩
abbrev main_v409 : Ref sig .tc := ⟨.hbm, 553, rfl⟩
abbrev main_v410 : Ref sig .tc := ⟨.hbm, 554, rfl⟩
abbrev main_v411 : Ref sig .tc := ⟨.hbm, 555, rfl⟩
abbrev main_v412 : Ref sig .tc := ⟨.hbm, 556, rfl⟩
abbrev main_c_71 : Ref sig .tc := ⟨.hbm, 557, rfl⟩
abbrev main_v413 : Ref sig .tc := ⟨.hbm, 558, rfl⟩
abbrev main_v414 : Ref sig .tc := ⟨.hbm, 559, rfl⟩
abbrev main_c_72 : Ref sig .tc := ⟨.hbm, 560, rfl⟩
abbrev main_v415 : Ref sig .tc := ⟨.hbm, 561, rfl⟩
abbrev main_v416 : Ref sig .tc := ⟨.hbm, 562, rfl⟩
abbrev main_v417 : Ref sig .tc := ⟨.hbm, 563, rfl⟩
abbrev main_c_73 : Ref sig .tc := ⟨.hbm, 564, rfl⟩
abbrev main_v418 : Ref sig .tc := ⟨.hbm, 565, rfl⟩
abbrev main_v419 : Ref sig .tc := ⟨.hbm, 566, rfl⟩
abbrev main_v420 : Ref sig .tc := ⟨.hbm, 567, rfl⟩
abbrev main_v421 : Ref sig .tc := ⟨.hbm, 568, rfl⟩
abbrev main_v422 : Ref sig .tc := ⟨.hbm, 569, rfl⟩
abbrev main_v423 : Ref sig .tc := ⟨.hbm, 570, rfl⟩
abbrev main_v424 : Ref sig .tc := ⟨.hbm, 571, rfl⟩
abbrev main_cst_74 : Ref sig .tc := ⟨.hbm, 572, rfl⟩
abbrev main_v425 : Ref sig .tc := ⟨.hbm, 573, rfl⟩
abbrev main_cst_75 : Ref sig .tc := ⟨.hbm, 574, rfl⟩
abbrev main_v426 : Ref sig .tc := ⟨.hbm, 575, rfl⟩
abbrev main_v427 : Ref sig .tc := ⟨.hbm, 576, rfl⟩
abbrev main_v428 : Ref sig .tc := ⟨.hbm, 577, rfl⟩
abbrev main_v429 : Ref sig .tc := ⟨.hbm, 578, rfl⟩
abbrev main_v430 : Ref sig .tc := ⟨.hbm, 579, rfl⟩
abbrev main_v431 : Ref sig .tc := ⟨.hbm, 580, rfl⟩
abbrev main_cst_76 : Ref sig .tc := ⟨.hbm, 581, rfl⟩
abbrev main_v432 : Ref sig .tc := ⟨.hbm, 582, rfl⟩
abbrev main_v433 : Ref sig .tc := ⟨.hbm, 583, rfl⟩
abbrev main_v434 : Ref sig .tc := ⟨.hbm, 584, rfl⟩
abbrev main_v435 : Ref sig .tc := ⟨.hbm, 585, rfl⟩
abbrev main_v436 : Ref sig .tc := ⟨.hbm, 586, rfl⟩
abbrev main_v437 : Ref sig .tc := ⟨.hbm, 587, rfl⟩
abbrev main_c_77 : Ref sig .tc := ⟨.hbm, 588, rfl⟩
abbrev main_v438 : Ref sig .tc := ⟨.hbm, 589, rfl⟩
abbrev main_v439 : Ref sig .tc := ⟨.hbm, 590, rfl⟩
abbrev main_c_78 : Ref sig .tc := ⟨.hbm, 591, rfl⟩
abbrev main_v440 : Ref sig .tc := ⟨.hbm, 592, rfl⟩
abbrev main_v441 : Ref sig .tc := ⟨.hbm, 593, rfl⟩
abbrev main_v442 : Ref sig .tc := ⟨.hbm, 594, rfl⟩
abbrev main_v443 : Ref sig .tc := ⟨.hbm, 595, rfl⟩
abbrev main_v444 : Ref sig .tc := ⟨.hbm, 596, rfl⟩
abbrev main_v445 : Ref sig .tc := ⟨.hbm, 597, rfl⟩
abbrev main_cst_79 : Ref sig .tc := ⟨.hbm, 598, rfl⟩

abbrev nD : Nat := 1
abbrev τ : Topo := Topo.v7x

variable {F : FTy → Type} [FloatOps F]
-- ==== Proof.Spec.lean ====
/- What both programs compute, as plain functions of extended reals: a gated feed-forward block on each selected token, weighted by
   the softmax of the selected scores, summed into the tokens' rows. -/
module

public import Idealize.ShloMosaic.PureOps.Ideal.Laws
public import Idealize.ShloMosaic.Lib.ValueIdx
public import Idealize.ShloMosaic.Lib.IdealHost
public import Idealize.ShloMosaic.Lib.Pipeline.Value

@[expose] public section

noncomputable section

open scoped BigOperators

namespace Cert.Moe

open Idealize.ShloMosaic Idealize.ShloMosaic.ValueIdx

/-- One hidden unit of one token: `silu (x · w1) · (x · w3)`. -/
def unit (x w1 w3 : Fin 2048 → EReal) : EReal :=
  ((∑ k, x k * w1 k) * Ideal.logistic (∑ k, x k * w1 k)) * ∑ k, x k * w3 k

/-- The greatest of an expert's selected scores. -/
def top (s : Fin 640 → EReal) : EReal := Finset.univ.fold max (Ideal.ofBits .f32 0xFF800000#32) s

/-- The softmax of an expert's selected scores. -/
def weight (s : Fin 640 → EReal) (j : Fin 640) : EReal :=
  Ideal.div (Ideal.exp (s j - top s)) (∑ k, Ideal.exp (s k - top s))

/-- What expert `e` computes for its `j`-th token, at output column `h`: the feed-forward block times the token's weight. -/
def row (X : Fin 4096 → Fin 2048 → EReal) (s : Fin 8 → Fin 640 → Fin 4096) (lg : Fin 8 → Fin 640 → EReal)
    (W1 W3 : Fin 8 → Fin 8192 → Fin 2048 → EReal) (W2 : Fin 8 → Fin 2048 → Fin 8192 → EReal)
    (e : Fin 8) (j : Fin 640) (h : Fin 2048) : EReal :=
  (∑ i, unit (X (s e j)) (W1 e i) (W3 e i) * W2 e h i) * weight (lg e) j

/-- The layer's output at token `t`, column `h`: over the experts, the rows of the tokens selected. -/
def routed (X : Fin 4096 → Fin 2048 → EReal) (s : Fin 8 → Fin 640 → Fin 4096) (lg : Fin 8 → Fin 640 → EReal)
    (W1 W3 : Fin 8 → Fin 8192 → Fin 2048 → EReal) (W2 : Fin 8 → Fin 2048 → Fin 8192 → EReal)
    (t : Fin 4096) (h : Fin 2048) : EReal :=
  ∑ e, ∑ j, if s e j = t then row X s lg W1 W3 W2 e j h else 0

/-- The greatest score is no less than the value its fold starts from. -/
theorem max_top (s : Fin 640 → EReal) : max (Ideal.ofBits .f32 0xFF800000#32) (top s) = top s :=
  max_eq_right ((Finset.le_fold_max _).2 (.inl le_rfl))

/-- A rank-2 index moved along its second axis. -/
theorem along_ix2 {n m : Nat} (e : Fin n) (j k : Fin m) : (ix2 e j : (⟨2, ![n, m]⟩ : Shape).Idx).along 1 k = ix2 e k := by
  funext a
  match a with
  | ⟨0, _⟩ => rfl
  | ⟨1, _⟩ => rfl

/-- The token expert `e` takes as its `j`-th: the position its `j`-th greatest score stands at, equal scores in token order. -/
def sel (v : (⟨2, ![8, 4096]⟩ : Shape).Idx → EReal) (e : Fin 8) (j : Fin 640) : Fin 4096 :=
  sortedFrom (fun k k' : Fin 4096 => FloatOps.cmpfTotal (F := Ideal) (φ := .f32) .gt (v (ix2 e k)) (v (ix2 e k')) == 1#1)
    (Fin.castLE (m := 4096) (by decide) j)

/-- The selected values are the scores of the selected tokens. -/
theorem topK_fst (v : (⟨2, ![8, 4096]⟩ : Shape).Idx → EReal) (h : (⟨2, ![8, 4096]⟩ : Shape).Slices (fun _ => 0) ⟨2, ![8, 640]⟩)
    (e : Fin 8) (j : Fin 640) :
    (Host.topK ⟨2, ![8, 640]⟩ 1 (FloatOps.cmpfTotal (F := Ideal) (φ := .f32) .gt) v h).1 (ix2 e j) = v (ix2 e (sel v e j)) := by
  unfold Host.topK
  dsimp only
  refine (extractStridedSlice_apply _ _ _ _ (ix2 e (Fin.castLE (m := 4096) (by decide) j)) fun a => ?_).trans ?_
  · match a with
    | ⟨0, _⟩ => exact (Nat.zero_add _).symm
    | ⟨1, _⟩ => exact (Nat.zero_add _).symm
  · unfold Host.sort2
    rw [dif_pos (show 1 < (⟨2, ![8, 4096]⟩ : Shape).rank from Nat.one_lt_two)]
    refine congrArg v ((along_ix2 (n := 8) (m := 4096) e _ _).trans (congrArg (ix2 e) ?_))
    unfold sel
    refine congrFun (congrArg sortedFrom ?_) _
    funext k k'
    exact congrArg (· == 1#1) (congrArg₂ _ (congrArg v (along_ix2 (n := 8) (m := 4096) e _ k)) (congrArg v (along_ix2 (n := 8) (m := 4096) e _ k')))

/-- The selected indices are the selected tokens' numbers. -/
theorem topK_snd (v : (⟨2, ![8, 4096]⟩ : Shape).Idx → EReal) (h : (⟨2, ![8, 4096]⟩ : Shape).Slices (fun _ => 0) ⟨2, ![8, 640]⟩)
    (e : Fin 8) (j : Fin 640) :
    (Host.topK ⟨2, ![8, 640]⟩ 1 (FloatOps.cmpfTotal (F := Ideal) (φ := .f32) .gt) v h).2 (ix2 e j) = BitVec.ofNat 32 (sel v e j).val := by
  unfold Host.topK
  dsimp only
  refine (extractStridedSlice_apply _ _ _ _ (ix2 e (Fin.castLE (m := 4096) (by decide) j)) fun a => ?_).trans ?_
  · match a with
    | ⟨0, _⟩ => exact (Nat.zero_add _).symm
    | ⟨1, _⟩ => exact (Nat.zero_add _).symm
  · unfold Host.sort2
    rw [dif_pos (show 1 < (⟨2, ![8, 4096]⟩ : Shape).rank from Nat.one_lt_two)]
    dsimp only
    rw [dif_pos (show 1 < (⟨2, ![8, 4096]⟩ : Shape).rank from Nat.one_lt_two)]
    refine congrArg (fun k : Fin 4096 => BitVec.ofNat 32 k.val) ?_
    refine (congrFun (along_ix2 (n := 8) (m := 4096) e _ _) 1).trans ?_
    unfold sel
    refine congrFun (congrArg sortedFrom ?_) _
    funext k k'
    exact congrArg (· == 1#1) (congrArg₂ _ (congrArg v (along_ix2 (n := 8) (m := 4096) e _ k)) (congrArg v (along_ix2 (n := 8) (m := 4096) e _ k')))

/-- The tokens of a `[2, 2048, 2048]` batch, one row each. -/
def tokens (x : (⟨3, ![2, 2048, 2048]⟩ : Shape).Idx → EReal) (t : Fin 4096) (k : Fin 2048) : EReal :=
  x (ix3 (⟨t.val / 2048, by omega⟩ : Fin 2) (⟨t.val % 2048, by omega⟩ : Fin 2048) k)

/-- The router's scores, an expert's row over the tokens. -/
def score (x : (⟨3, ![2, 2048, 2048]⟩ : Shape).Idx → EReal) (g : (⟨2, ![8, 2048]⟩ : Shape).Idx → EReal) :
    (⟨2, ![8, 4096]⟩ : Shape).Idx → EReal := fun i => ∑ k, tokens x (i 1) k * g (ix2 (i 0) k)

/-- The whole layer over flat tokens. -/
def flat (x : (⟨3, ![2, 2048, 2048]⟩ : Shape).Idx → EReal) (g : (⟨2, ![8, 2048]⟩ : Shape).Idx → EReal)
    (w1 : (⟨3, ![8, 8192, 2048]⟩ : Shape).Idx → EReal) (w2 : (⟨3, ![8, 2048, 8192]⟩ : Shape).Idx → EReal)
    (w3 : (⟨3, ![8, 8192, 2048]⟩ : Shape).Idx → EReal) (t : Fin 4096) (h : Fin 2048) : EReal :=
  routed (tokens x) (sel (score x g)) (fun e j => score x g (ix2 e (sel (score x g) e j)))
    (fun e i k => w1 (ix3 e i k)) (fun e i k => w3 (ix3 e i k)) (fun e h i => w2 (ix3 e h i)) t h

/-- The whole layer, batched as its argument. -/
def layer (x : (⟨3, ![2, 2048, 2048]⟩ : Shape).Idx → EReal) (g : (⟨2, ![8, 2048]⟩ : Shape).Idx → EReal)
    (w1 : (⟨3, ![8, 8192, 2048]⟩ : Shape).Idx → EReal) (w2 : (⟨3, ![8, 2048, 8192]⟩ : Shape).Idx → EReal)
    (w3 : (⟨3, ![8, 8192, 2048]⟩ : Shape).Idx → EReal) : (⟨3, ![2, 2048, 2048]⟩ : Shape).Idx → EReal :=
  shapeCast ⟨3, ![2, 2048, 2048]⟩ (fun i : (⟨2, ![4096, 2048]⟩ : Shape).Idx => flat x g w1 w2 w3 (i 0) (i 1)) (by decide)

/-- Flattening the batch gives the tokens' rows. -/
theorem tokens_apply (x : (⟨3, ![2, 2048, 2048]⟩ : Shape).Idx → EReal)
    (hc : (⟨3, ![2, 2048, 2048]⟩ : Shape).ShapeCasts ⟨2, ![4096, 2048]⟩) (t : Fin 4096) (k : Fin 2048) :
    shapeCast ⟨2, ![4096, 2048]⟩ x hc (ix2 t k) = tokens x t k := by
  refine shapeCast_apply _ _ _ _ ?_
  rw [Shape.rowMajor_val_two, Shape.rowMajor_val_three]
  show (t.val / 2048 * 2048 + t.val % 2048) * 2048 + k.val = t.val * 2048 + k.val
  rw [Nat.div_add_mod']

end Cert.Moe

end
-- ==== Proof.Moves.lean ====
/- Reading the host's data movement at an index: a scatter that adds rows, and a gather of one entry per pair of words. -/
module

public import Idealize.ShloMosaic.Lib.Routing.Ops
public import Idealize.ShloMosaic.Lib.MatmulPlain
public import proofs.«01_k».proof.Proof.Spec

@[expose] public section

noncomputable section

open scoped BigOperators

namespace Cert.Moe

open Idealize.ShloMosaic Idealize.ShloMosaic.ValueIdx Idealize.ShloMosaic.Routing

/-- A row of updates lands on the row its word names, column by column. -/
theorem row_lands {N n B : Nat} (d : ScatterDims (shape2 N B) (shape2 n 1) (shape2 n B)) (huw : d.updateWindowDims = [1])
    (hiw : d.insertedWindowDims = [0]) (hsd : d.scatterDimsToOperandDims = [0]) (hivd : d.indexVectorDim = 1)
    (idx : IVec (shape2 n 1) 32) (j : Fin n) (c : Fin B) (b : Fin N) (hN : N < 2 ^ 31)
    (hb : idx (ix2 j (0 : Fin 1)) = BitVec.ofNat 32 b.val) : d.resultIdx? (ix2 j c) idx = some (ix2 b c) := by
  have hm : (0 : Fin 2) ∈ d.scatterDimsToOperandDims := by rw [hsd]; exact List.mem_singleton.2 rfl
  have hm1 : (1 : Fin 2) ∉ d.scatterDimsToOperandDims := one_not_mem _ hsd
  have e0 : ∀ X : Fin 2, X = 0 → (ix2 j c X).val = j.val := fun X h => by subst h; rfl
  have e1 : ∀ X : Fin 2, X = 1 → (ix2 j c X).val = c.val := fun X h => by subst h; rfl
  have hu1 : ∀ k ∈ d.updateWindowDims, k = (1 : Fin 2) := fun k hk => by rw [huw] at hk; exact List.mem_singleton.1 hk
  have hu0 : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have hw0 : d.window (ix2 j c) 0 = 0 := by
    unfold ScatterDims.window
    rw [dif_neg fun h => (of_decide_eq_true (List.mem_filter.1 h).2) (by rw [hiw]; exact List.mem_singleton.2 rfl)]
  have hw1 : d.window (ix2 j c) 1 = c.val := by
    unfold ScatterDims.window
    have hk : (1 : Fin 2) ∈ d.sKept := List.mem_filter.2 ⟨List.mem_finRange _, decide_eq_true (one_not_mem _ hiw)⟩
    rw [dif_pos hk]
    exact e1 _ (hu1 _ (List.getElem_mem _))
  have hs1 : d.start (ix2 j c) idx 1 = 0 := by
    unfold ScatterDims.start
    rw [dif_neg hm1]
  have hs0 : d.start (ix2 j c) idx 0 = (b.val : Int) := by
    unfold ScatterDims.start
    rw [dif_pos hm]
    have hsi : d.siIdx (ix2 j c) ⟨d.scatterDimsToOperandDims.idxOf 0, List.idxOf_lt_length_iff.2 hm⟩ = ix2 j (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hu0 _ (List.getElem_mem _))
      | ⟨1, _⟩ =>
        unfold ScatterDims.siIdx
        rw [dif_pos (by rw [hivd])]
        show List.idxOf (0 : Fin 2) d.scatterDimsToOperandDims = 0
        rw [hsd]; simp
    have hbl := b.isLt
    rw [hsi, hb, StableHlo.Predicate.toInt_ofNat_small _ (by omega)]
  have hbl := b.isLt
  have hcl := c.isLt
  unfold ScatterDims.resultIdx?
  rw [dif_pos fun a => ?_]
  · refine congrArg some (funext fun a => Fin.ext ?_)
    match a with
    | ⟨0, _⟩ =>
      show (d.start (ix2 j c) idx 0 + (d.window (ix2 j c) 0 : Int)).toNat = b.val
      rw [hs0, hw0]; omega
    | ⟨1, _⟩ =>
      show (d.start (ix2 j c) idx 1 + (d.window (ix2 j c) 1 : Int)).toNat = c.val
      rw [hs1, hw1]; omega
  · match a with
    | ⟨0, _⟩ =>
      show 0 ≤ d.start (ix2 j c) idx 0 + (d.window (ix2 j c) 0 : Int) ∧ d.start (ix2 j c) idx 0 + (d.window (ix2 j c) 0 : Int) < (N : Int)
      rw [hs0, hw0]; omega
    | ⟨1, _⟩ =>
      show 0 ≤ d.start (ix2 j c) idx 1 + (d.window (ix2 j c) 1 : Int) ∧ d.start (ix2 j c) idx 1 + (d.window (ix2 j c) 1 : Int) < (B : Int)
      rw [hs1, hw1]; omega

/-- Adding rows at the rows their words name: each entry gains the updates' entries of its column whose row is its own. -/
theorem scatterAdd_row {N n B : Nat} (d : ScatterDims (shape2 N B) (shape2 n 1) (shape2 n B)) (huw : d.updateWindowDims = [1])
    (hiw : d.insertedWindowDims = [0]) (hsd : d.scatterDimsToOperandDims = [0]) (hivd : d.indexVectorDim = 1)
    (hN : N < 2 ^ 31) (x : FVec Ideal (shape2 N B) .f32) (idx : IVec (shape2 n 1) 32) (upd : FVec Ideal (shape2 n B) .f32)
    (s : Fin n → Fin N) (hs : ∀ j, idx (ix2 j (0 : Fin 1)) = BitVec.ofNat 32 (s j).val) (t : Fin N) (h : Fin B) :
    Host.scatterAdd d x idx upd (ix2 t h) = x (ix2 t h) + ∑ j, if s j = t then upd (ix2 j h) else 0 := by
  show x (ix2 t h) + ∑ j ∈ Finset.univ.filter (fun j => d.resultIdx? j idx = some (ix2 t h)), upd j = _
  refine congrArg (x (ix2 t h) + ·) ?_
  rw [Finset.sum_filter, sum_idx2]
  refine Finset.sum_congr rfl fun j _ => ?_
  have hland : ∀ c : Fin B, (d.resultIdx? (ix2 j c) idx = some (ix2 t h)) ↔ (s j = t ∧ c = h) := fun c => by
    rw [row_lands d huw hiw hsd hivd idx j c (s j) hN (hs j)]
    constructor
    · intro e
      have e' := Option.some.inj e
      exact ⟨congrFun e' 0, congrFun e' 1⟩
    · rintro ⟨rfl, rfl⟩; rfl
  simp only [hland]
  by_cases hj : s j = t
  · simp [hj]
  · simp [hj]

/-- One entry per pair of words: where the words hold `b` and `c`, the operand's entry `(b, c)`. -/
theorem gather_pair {α : Type} {nb B n : Nat} (d : GatherDims (shape2 nb B) (shape2 n 2) (shape1 n))
    (hcoll : d.collapsedSliceDims = [0, 1]) (hob : d.operandBatchingDims = [])
    (hsim : d.startIndexMap = [0, 1]) (hivd : d.indexVectorDim = 1) (x : (shape2 nb B).Idx → α) (idx : IVec (shape2 n 2) 32)
    (j : Fin n) (b : Fin nb) (c : Fin B) (hb : idx (ix2 j (0 : Fin 2)) = BitVec.ofNat 32 b.val)
    (hc : idx (ix2 j (1 : Fin 2)) = BitVec.ofNat 32 c.val) (hnb : nb < 2 ^ 31) (hB : B < 2 ^ 31) :
    Host.gather d x idx (ix1 j) = x (ix2 b c) := by
  unfold Host.gather
  refine congrArg x (funext fun a => Fin.ext ?_)
  have hbN : ∀ a', a' ∉ d.operandBatchingDims := fun a' => by rw [hob]; exact List.not_mem_nil
  have hmem : ∀ a : Fin 2, a ∈ ([0, 1] : List (Fin 2)) := by decide
  have hk : ∀ a : Fin 2, a ∉ d.sKept := fun a h => ((d.mem_sKept a).1 h).1 (by rw [hcoll]; exact hmem a)
  have hm : ∀ a : Fin 2, a ∈ d.startIndexMap := fun a => by rw [hsim]; exact hmem a
  have hsl : ∀ a : Fin 2, d.sliceSizes a = 1 := fun a => d.slice_collapsed a (by rw [hcoll]; exact hmem a)
  have e : ∀ X : Fin 1, (ix1 j X).val = j.val := fun X => by
    obtain rfl : X = 0 := Subsingleton.elim _ _
    rfl
  have hsi : ∀ a : Fin 2, d.siIdx (ix1 j) ⟨d.startIndexMap.idxOf a, List.idxOf_lt_length_iff.2 (hm a)⟩ = ix2 j a := fun a => by
    funext b'
    apply Fin.ext
    match b' with
    | ⟨0, _⟩ =>
      unfold GatherDims.siIdx
      rw [dif_neg (by rw [hivd]; exact Nat.zero_ne_one)]
      unfold GatherDims.siCoord
      simp only [Fin.val_cast]
      exact e _
    | ⟨1, _⟩ =>
      unfold GatherDims.siIdx
      rw [dif_pos (by rw [hivd])]
      show List.idxOf a d.startIndexMap = a.val
      rw [hsim]
      match a with
      | ⟨0, _⟩ => rfl
      | ⟨1, _⟩ => rfl
  have hst : ∀ a : Fin 2, d.start (ix1 j) idx a + d.batchCoord (ix1 j) a + d.offCoord (ix1 j) a
      = min (idx (ix2 j a)).toInt.toNat ((shape2 nb B).size a - 1) := fun a => by
    rw [d.batchCoord_eq_zero _ _ (hbN a), d.offCoord_eq_zero _ _ (hk a)]
    simp only [Nat.add_zero]
    unfold GatherDims.start
    rw [dif_pos (hm a), hsi, hsl]
  have hbl := b.isLt
  have hcl := c.isLt
  match a with
  | ⟨0, _⟩ =>
    refine (hst 0).trans ?_
    rw [hb, StableHlo.Predicate.toInt_ofNat_small _ (by omega)]
    show min ((b.val : Int)).toNat (nb - 1) = b.val
    omega
  | ⟨1, _⟩ =>
    refine (hst 1).trans ?_
    rw [hc, StableHlo.Predicate.toInt_ofNat_small _ (by omega)]
    show min ((c.val : Int)).toNat (B - 1) = c.val
    omega

/-- The host's product of two matrices, at an entry. -/
theorem dot_plain {M K N : Nat} (x : FVec Ideal ⟨2, ![M, K]⟩ .f32) (y : FVec Ideal ⟨2, ![K, N]⟩ .f32) (r : Fin M) (c : Fin N) :
    Host.dotGeneral (DotDims.plain M K N) none x y (ix2 r c) = ∑ k : Fin K, x (ix2 r k) * y (ix2 k c) := by
  have h := Ideal.matmul_plain_apply (M := M) (K := K) (N := N) none x y (fun _ => (0 : EReal)) r c
  rw [Ideal.matmul_apply, zero_add, zero_add] at h
  simp only [Host.dotGeneral]
  rw [Ideal.dotGeneral_apply]
  exact h

/-- A transposed matrix at an entry. -/
theorem transpose_ix2 {α : Type} {n m : Nat} (x : (shape2 n m).Idx → α) (h : (shape2 n m).Transposes [1, 0] (shape2 m n)) (a : Fin m) (b : Fin n) :
    transpose (shape2 m n) [1, 0] x h (ix2 a b) = x (ix2 b a) :=
  transpose_apply _ _ _ _ _ fun k => by
    match k with
    | ⟨0, _⟩ => rfl
    | ⟨1, _⟩ => rfl

/-- One matrix of a stack, cut out and its leading axis dropped, at an entry. -/
theorem layer_ix2 {α : Type} {E n m : Nat} (x : (shape3 E n m).Idx → α) (e : Fin E) (hs : (shape3 E n m).Slices ![e.val, 0, 0] (shape3 1 n m))
    (hc : (shape3 1 n m).ShapeCasts (shape2 n m)) (a : Fin n) (b : Fin m) :
    shapeCast (shape2 n m) (extractStridedSlice (shape3 1 n m) ![e.val, 0, 0] x hs) hc (ix2 a b) = x (ix3 e a b) := by
  refine (shapeCast_apply _ _ _ (ix3 (0 : Fin 1) a b) ?_).trans (extractStridedSlice_apply _ _ _ _ _ fun k => ?_)
  · rw [Shape.rowMajor_val_two, Shape.rowMajor_val_three]
    show ((0 * n + a.val) * m + b.val : Nat) = a.val * m + b.val
    rw [Nat.zero_mul, Nat.zero_add]
  · match k with
    | ⟨0, _⟩ => rfl
    | ⟨1, _⟩ => exact (Nat.zero_add _).symm
    | ⟨2, _⟩ => exact (Nat.zero_add _).symm

/-- One row of a matrix, cut out and its leading axis dropped, at an entry. -/
theorem line_ix1 {α : Type} {E n : Nat} (x : (shape2 E n).Idx → α) (e : Fin E) (hs : (shape2 E n).Slices ![e.val, 0] (shape2 1 n))
    (hc : (shape2 1 n).ShapeCasts (shape1 n)) (a : Fin n) :
    shapeCast (shape1 n) (extractStridedSlice (shape2 1 n) ![e.val, 0] x hs) hc (ix1 a) = x (ix2 e a) := by
  refine (shapeCast_apply _ _ _ (ix2 (0 : Fin 1) a) ?_).trans (extractStridedSlice_apply _ _ _ _ _ fun k => ?_)
  · rw [Shape.rowMajor_val_two, Shape.rowMajor_val_one]
    show (0 * n + a.val : Nat) = a.val
    rw [Nat.zero_mul, Nat.zero_add]
  · match k with
    | ⟨0, _⟩ => rfl
    | ⟨1, _⟩ => exact (Nat.zero_add _).symm

/-- A token's number, fixed up as an index that may count from the end, is itself. -/
theorem fixed_word (b : Fin 4096) :
    Scalar.select (IntOp.cmpi .slt (BitVec.ofNat 32 b.val) 0#32) (IntOp.addi (BitVec.ofNat 32 b.val) 4096#32) (BitVec.ofNat 32 b.val)
      = BitVec.ofNat 32 b.val := by
  have h : ∀ b : Fin 4096, IntOp.cmpi .slt (BitVec.ofNat 32 b.val) 0#32 = 0#1 := by decide +kernel
  rw [h b]; rfl

end Cert.Moe

end
-- ==== Proof.KernelIdeal.FfnBody.lean ====
/- One grid point of the first pallas_call: the expert feed-forward network over one block of 1024 inner columns.

   The body is run once per case of its two conditionals, and each run is stated with what it leaves in closed form:
   the accumulator ends at `k0_pay2` of the four blocks and of what it held (or of zeros at a block row's first
   point), and at a block row's last point the output block ends at `k0_pay3` of the scores and the accumulator. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- A buffer read back after a list of stores of which the last covers it whole holds that store's value. -/
theorem read_last {s : Shape} {e : EltTy} {sp : Space} (v : View sig .tc sp s e) (f : v.ty.Contents (Elt F))
    {off : Fin s.rank → Nat} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon v f _ (fun y => ⟨_, List.mem_cons_self, by
    subst h; show y ∈ (Rect.whole s).set; rw [Rect.set_whole]; exact Finset.mem_univ y⟩)]
  exact View.canon_cons_unit_zero h inb w L

/-- The first conditional: this is a block row's first point. -/
abbrev ffnFirst (i : grid0.Coords) : Prop := (Scalar.cmpi .ne (Scalar.extui (Scalar.cmpi .eq (BitVec.ofNat 32 (i 1).val) 0#32)) 0#32) = 1#1

theorem ffnFirst_iff : ∀ t : Fin cfg0.N, ffnFirst (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [ffnFirst, e1]
    word_cmp
   : ∀ t : Fin grid0.N, ffnFirst (grid0.coords t) ↔ t.val % 8 = 0)

/-- The second conditional: this is a block row's last point. -/
abbrev ffnLast (i : grid0.Coords) : Prop := k0_cond2 i = 1#1

theorem ffnLast_iff : ∀ t : Fin cfg0.N, ffnLast (grid0.coords t) ↔ t.val % 8 = 7 :=
  (fun t => by
    have ht : t.val < 64 := Nat.lt_of_lt_of_eq t.isLt N_0
    have e1 : (grid0.coords t 1).val = t.val / 1 % 8 := Pipeline.Grid.coords_val t 1 (by decide) rfl
    simp only [ffnLast, k0_cond2, e1]
    word_cmp
   : ∀ t : Fin grid0.N, ffnLast (grid0.coords t) ↔ t.val % 8 = 7)

section
variable (c : Dev nD) (i : grid0.Coords)
  (arg2 : Memref sig .tc .vmem S1x1x640 .f32) (harg2 : arg2.IsWhole) (arg3 : Memref sig .tc .vmem S1x640x2048 .bf16) (harg3 : arg3.IsWhole)
  (arg4 : Memref sig .tc .vmem S1x1024x2048 .bf16) (harg4 : arg4.IsWhole) (arg5 : Memref sig .tc .vmem S1x1024x2048 .bf16) (harg5 : arg5.IsWhole)
  (arg6 : Memref sig .tc .vmem S1x2048x1024 .bf16) (harg6 : arg6.IsWhole) (arg7 : Memref sig .tc .vmem S1x640x2048 .f32) (harg7 : arg7.IsWhole)
  (arg8 : Memref sig .tc .vmem S640x2048 .f32) (harg8 : arg8.IsWhole)
  (x0 : Vec F S1x1x640 .f32) (x1 : Vec F S1x640x2048 .bf16) (x2 : Vec F S1x1024x2048 .bf16) (x3 : Vec F S1x1024x2048 .bf16)
  (x4 : Vec F S1x2048x1024 .bf16) (acc : Vec F S640x2048 .f32) (E : Set ℕ)

/-- A block row's first point: whatever the accumulator held, it ends at the block's contribution over zeros. -/
theorem ffn_first (K : PUnit → sProp 𝕄) (h0 : ffnFirst i) (h1 : ¬ ffnLast i) :
    iprop(owns (c : Thread nD τ) arg3 fullShare x1 ∗ owns (c : Thread nD τ) arg4 fullShare x2 ∗ owns (c : Thread nD τ) arg5 fullShare x3
        ∗ owns (c : Thread nD τ) arg6 fullShare x4 ∗ (∃ d, owns (c : Thread nD τ) arg8 fullShare d)
        ∗ (iprop(owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg8 fullShare (k0_pay2 x1 x2 x3 x4 (k0_pay1 (F := F)))) -∗ K ⟨⟩))
      ⊢ wp frame (wpE (defs₀ (F := F)) Variants.none c none) E (cc0__ffn_body i arg2 harg2 arg3 harg3 arg4 harg4 arg5 harg5 arg6 harg6 arg7 harg7 arg8 harg8) K := by
  simp only [cc0__ffn_body_eq_skeleton]; unfold cc0__ffn_body_skel
  unfold owns
  iintro ⟨⟨%f1, %hf1, H1⟩, ⟨%f2, %hf2, H2⟩, ⟨%f3, %hf3, H3⟩, ⟨%f4, %hf4, H4⟩, ⟨%d8, %f8, -, H8⟩, Hk⟩
  obtain rfl := harg3.eq_unread hf1; obtain rfl := harg4.eq_unread hf2; obtain rfl := harg5.eq_unread hf3; obtain rfl := harg6.eq_unread hf4
  sl_exec (disch := first | sl_exact h0 | sl_exact h1)
  sl_step
  iapply Hk
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact H8
  ipureintro
  sl_unfold_words
  rw [read_last _ _ zeros2, View.readCov_unit_zero (S := S640x2048) _ zeros2]
  simp only [View.readAt_eq_ld, harg3.read_unread, harg4.read_unread, harg5.read_unread, harg6.read_unread,
    View.ld_unit_zero (S := S1x640x2048) zeros3, View.ld_unit_zero (S := S1x1024x2048) zeros3, View.ld_unit_zero (S := S1x2048x1024) zeros3]

/-- A point between: the block's contribution is added to the accumulator. -/
theorem ffn_mid (K : PUnit → sProp 𝕄) (h0 : ¬ ffnFirst i) (h1 : ¬ ffnLast i) :
    iprop(owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg8 fullShare acc
        ∗ (iprop(owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg8 fullShare (k0_pay2 x1 x2 x3 x4 acc)) -∗ K ⟨⟩))
      ⊢ wp frame (wpE (defs₀ (F := F)) Variants.none c none) E (cc0__ffn_body i arg2 harg2 arg3 harg3 arg4 harg4 arg5 harg5 arg6 harg6 arg7 harg7 arg8 harg8) K := by
  simp only [cc0__ffn_body_eq_skeleton]; unfold cc0__ffn_body_skel
  unfold owns
  iintro ⟨⟨%f1, %hf1, H1⟩, ⟨%f2, %hf2, H2⟩, ⟨%f3, %hf3, H3⟩, ⟨%f4, %hf4, H4⟩, ⟨%f8, %hf8, H8⟩, Hk⟩
  obtain rfl := harg3.eq_unread hf1; obtain rfl := harg4.eq_unread hf2; obtain rfl := harg5.eq_unread hf3; obtain rfl := harg6.eq_unread hf4
  obtain rfl := harg8.eq_unread hf8
  sl_exec (disch := first | sl_exact h0 | sl_exact h1)
  sl_step
  iapply Hk
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact H8
  ipureintro
  sl_unfold_words
  rw [read_last _ _ zeros2]
  simp only [View.readAt_eq_ld, harg3.read_unread, harg4.read_unread, harg5.read_unread, harg6.read_unread, harg8.read_unread,
    View.ld_unit_zero (S := S1x640x2048) zeros3, View.ld_unit_zero (S := S1x1024x2048) zeros3, View.ld_unit_zero (S := S1x2048x1024) zeros3,
    View.ld_unit_zero (S := S640x2048) zeros2]

/-- A block row's last point: the contribution is added, and the output block ends at the accumulator's rows scaled by
    the softmax of the scores. -/
theorem ffn_last (K : PUnit → sProp 𝕄) (h0 : ¬ ffnFirst i) (h1 : ffnLast i) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ (∃ d, owns (c : Thread nD τ) arg7 fullShare d) ∗ owns (c : Thread nD τ) arg8 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare (k0_pay3 x0 (k0_pay2 x1 x2 x3 x4 acc))
            ∗ owns (c : Thread nD τ) arg8 fullShare (k0_pay2 x1 x2 x3 x4 acc)) -∗ K ⟨⟩))
      ⊢ wp frame (wpE (defs₀ (F := F)) Variants.none c none) E (cc0__ffn_body i arg2 harg2 arg3 harg3 arg4 harg4 arg5 harg5 arg6 harg6 arg7 harg7 arg8 harg8) K := by
  simp only [cc0__ffn_body_eq_skeleton]; unfold cc0__ffn_body_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg8.eq_unread hf8
  sl_exec (disch := first | sl_exact h0 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    sl_unfold_words
    rw [read_last _ _ zeros3, View.readCov_unit_zero (S := S640x2048) _ zeros2]
    simp only [View.readAt_eq_ld, harg2.read_unread, harg3.read_unread, harg4.read_unread, harg5.read_unread, harg6.read_unread, harg8.read_unread,
      View.ld_unit_zero (S := S1x1x640) zeros3, View.ld_unit_zero (S := S1x640x2048) zeros3, View.ld_unit_zero (S := S1x1024x2048) zeros3,
      View.ld_unit_zero (S := S1x2048x1024) zeros3, View.ld_unit_zero (S := S640x2048) zeros2]
  iexists _; isplitr; swap; · iexact H8
  ipureintro
  sl_unfold_words
  rw [read_last _ _ zeros2]
  simp only [View.readAt_eq_ld, harg3.read_unread, harg4.read_unread, harg5.read_unread, harg6.read_unread, harg8.read_unread,
    View.ld_unit_zero (S := S1x640x2048) zeros3, View.ld_unit_zero (S := S1x1024x2048) zeros3, View.ld_unit_zero (S := S1x2048x1024) zeros3,
    View.ld_unit_zero (S := S640x2048) zeros2]

end

end Cert.KernelIdeal.Own

end
-- ==== Proof.KernelIdeal.FfnRegion.lean ====
/- The first pallas_call as a region of @main: what the accumulator holds after each of the 64 grid points, the
   proof data of its pipeline over any entry contents `V`, and the body obligation at a generic point. -/
module

public import proofs.«01_k».proof.Proof.KernelIdeal.FfnBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Valuation τ sig (Elt F)) (c : Dev nD)

/-- Window `w`'s block of the entry contents at point `t`. -/
def ffnBlk (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- What the accumulator holds after point `n`: the point's contribution over what the point before left, or over
    zeros at a block row's first point. -/
def ffnAcc : (n : ℕ) → n < cfg0.N → Vec F S640x2048 .f32
  | 0, h => k0_pay2 (ffnBlk V 1 ⟨0, h⟩) (ffnBlk V 2 ⟨0, h⟩) (ffnBlk V 3 ⟨0, h⟩) (ffnBlk V 4 ⟨0, h⟩) (k0_pay1 (F := F))
  | n + 1, h => k0_pay2 (ffnBlk V 1 ⟨n + 1, h⟩) (ffnBlk V 2 ⟨n + 1, h⟩) (ffnBlk V 3 ⟨n + 1, h⟩) (ffnBlk V 4 ⟨n + 1, h⟩)
      (if (n + 1) % 8 = 0 then k0_pay1 (F := F) else ffnAcc n (Nat.lt_of_succ_lt h))

/-- At a block row's first point the accumulator starts from zeros. -/
theorem ffnAcc_first (t : Fin cfg0.N) (h0 : t.val % 8 = 0) :
    ffnAcc V t.val t.isLt = k0_pay2 (ffnBlk V 1 t) (ffnBlk V 2 t) (ffnBlk V 3 t) (ffnBlk V 4 t) (k0_pay1 (F := F)) := by
  obtain ⟨n, hn⟩ := t
  cases n with
  | zero => rfl
  | succ n => rw [ffnAcc, if_pos h0]

/-- At every other point it continues from the point before. -/
theorem ffnAcc_next (t : Fin cfg0.N) (h0 : ¬ t.val % 8 = 0) :
    ffnAcc V t.val t.isLt = k0_pay2 (ffnBlk V 1 t) (ffnBlk V 2 t) (ffnBlk V 3 t) (ffnBlk V 4 t)
      (ffnAcc V (t.val - 1) (Nat.lt_of_le_of_lt (Nat.sub_le _ _) t.isLt)) := by
  obtain ⟨n, hn⟩ := t
  cases n with
  | zero => exact absurd (Nat.zero_mod _) h0
  | succ n => rw [ffnAcc, if_neg h0]; rfl

/-- The scoped buffers the region does not use: the second pallas_call's staging buffers. -/
def ffnOthers : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f))

/-- The accumulator's scratch buffer. -/
abbrev ffnScratch : Memref sig .tc .vmem S640x2048 .f32 := Memref.whole cc0_scratch0

theorem ffnRest_eq : (Pipeline.scopedRest (Ix := Unit) (Name := ℕ) (U := UR sig nD τ) (Lvl := ℕ) (Val := Elt F) spec0 c : sProp 𝕄)
    = iprop((∃ d, owns (c : Thread nD τ) ffnScratch fullShare d) ∗ ffnOthers (F := F) c) := by
  rw [scopedRest0_eq]; unfold ffnOthers; simp only [ffnScratch, owns_whole]; try rfl

/-- The invariant before position `n`: at the start the scratch holds anything, later it holds the accumulator. -/
def ffnInv : (n : ℕ) → n ≤ cfg0.N → sProp 𝕄
  | 0, _ => iprop((∃ d, owns (c : Thread nD τ) ffnScratch fullShare d) ∗ ffnOthers (F := F) c)
  | n + 1, h => iprop(owns (c : Thread nD τ) ffnScratch fullShare (ffnAcc V n h) ∗ ffnOthers (F := F) c)

theorem ffnInv_pos (n : ℕ) (h : n ≤ cfg0.N) (hz : n ≠ 0) :
    ffnInv V c n h = iprop(owns (c : Thread nD τ) ffnScratch fullShare (ffnAcc V (n - 1) (by omega)) ∗ ffnOthers (F := F) c) := by
  cases n with
  | zero => exact absurd rfl hz
  | succ n => rfl

/-- Whatever the position, the scratch holds something. -/
theorem ffnInv_any (n : ℕ) (h : n ≤ cfg0.N) :
    ffnInv V c n h ⊢ iprop((∃ d, owns (c : Thread nD τ) ffnScratch fullShare d) ∗ ffnOthers (F := F) c) := by
  cases n with
  | zero => exact .rfl
  | succ n =>
    show iprop(owns (c : Thread nD τ) ffnScratch fullShare (ffnAcc V n h) ∗ ffnOthers (F := F) c) ⊢ _
    iintro ⟨HS, HO⟩
    isplitl [HS]
    · iexists _; iexact HS
    iexact HO

/-- The proof data of the region's pipeline: the arrays at the entry contents, each input's buffer at its block, the
    output's buffer at the scaled accumulator. -/
def ffnDat : Dat τ (Elt F) Unit ℕ (UR sig nD τ) ℕ cfg0 c where
  A w := V (Proc.devRef .tc (Pipeline.arrRef spec0 w))
  after w t := match w with
    | ⟨0, _⟩ => ffnBlk V 0 t
    | ⟨1, _⟩ => ffnBlk V 1 t
    | ⟨2, _⟩ => ffnBlk V 2 t
    | ⟨3, _⟩ => ffnBlk V 3 t
    | ⟨4, _⟩ => ffnBlk V 4 t
    | ⟨5, _⟩ => k0_pay3 (ffnBlk V 0 t) (ffnAcc V t.val t.isLt)
  Φ t := ffnInv V c t.val (Nat.le_of_lt_succ t.isLt)
  q _ := fullShare
  owed _ := 0

theorem ffnDat_A (w : Fin cfg0.W) : (ffnDat V c).A w = V (Proc.devRef .tc (Pipeline.arrRef spec0 w)) := by
  dsimp only [ffnDat]

theorem ffnDat_Phi (t : Fin cfg0.N) : (ffnDat V c).Φ t.castSucc = ffnInv V c t.val (Nat.le_of_lt t.isLt) := by
  dsimp only [ffnDat]; exact Pipeline.Dat.Φ_castSucc (ffnInv V c) t

theorem ffnAfter_0 (t : Fin cfg0.N) : (ffnDat V c).after 0 t = ffnBlk V 0 t := by dsimp only [ffnDat]
theorem ffnAfter_1 (t : Fin cfg0.N) : (ffnDat V c).after 1 t = ffnBlk V 1 t := by dsimp only [ffnDat]
theorem ffnAfter_2 (t : Fin cfg0.N) : (ffnDat V c).after 2 t = ffnBlk V 2 t := by dsimp only [ffnDat]
theorem ffnAfter_3 (t : Fin cfg0.N) : (ffnDat V c).after 3 t = ffnBlk V 3 t := by dsimp only [ffnDat]
theorem ffnAfter_4 (t : Fin cfg0.N) : (ffnDat V c).after 4 t = ffnBlk V 4 t := by dsimp only [ffnDat]
theorem ffnAfter_5 (t : Fin cfg0.N) : (ffnDat V c).after 5 t = k0_pay3 (ffnBlk V 0 t) (ffnAcc V t.val t.isLt) := by dsimp only [ffnDat]

/-- Each input's staging buffer holds its block at every point, fetched there or not. -/
theorem ffnBefore_0 (t : Fin cfg0.N) (d) : (ffnDat V c).before 0 t d = ffnBlk V 0 t :=
  ((ffnDat V c).before_in_eq_fetched 0 rfl (fun _ => rfl) (fun _ _ _ => rfl) (fun _ => rfl) t d).trans rfl
theorem ffnBefore_1 (t : Fin cfg0.N) (d) : (ffnDat V c).before 1 t d = ffnBlk V 1 t :=
  ((ffnDat V c).before_in_eq_fetched 1 rfl (fun _ => rfl) (fun _ _ _ => rfl) (fun _ => rfl) t d).trans rfl
theorem ffnBefore_2 (t : Fin cfg0.N) (d) : (ffnDat V c).before 2 t d = ffnBlk V 2 t :=
  ((ffnDat V c).before_in_eq_fetched 2 rfl (fun _ => rfl) (fun _ _ _ => rfl) (fun _ => rfl) t d).trans rfl
theorem ffnBefore_3 (t : Fin cfg0.N) (d) : (ffnDat V c).before 3 t d = ffnBlk V 3 t :=
  ((ffnDat V c).before_in_eq_fetched 3 rfl (fun _ => rfl) (fun _ _ _ => rfl) (fun _ => rfl) t d).trans rfl
theorem ffnBefore_4 (t : Fin cfg0.N) (d) : (ffnDat V c).before 4 t d = ffnBlk V 4 t :=
  ((ffnDat V c).before_in_eq_fetched 4 rfl (fun _ => rfl) (fun _ _ _ => rfl) (fun _ => rfl) t d).trans rfl

/-- Away from a block row's last point the output's buffer is idle and not written back. -/
theorem ffnIdle : ∀ t : Fin cfg0.N, ¬ ffnLast (grid0.coords t) → cfg0.idle 5 (grid0.coords t) = true := by decide +kernel
theorem ffnNoFlush : ∀ t : Fin cfg0.N, ¬ ffnLast (grid0.coords t) → (cfg0.win 5).flush t = false := by decide +kernel
theorem ffnLive : ∀ t : Fin cfg0.N, ffnLast (grid0.coords t) → cfg0.idle 5 (grid0.coords t) = false := by decide +kernel

/-- What a live window is left with. -/
theorem ffnLeaves (w : Fin cfg0.W) (t : Fin cfg0.N) (h : cfg0.idle w (grid0.coords t) = false) :
    (ffnDat V c).leavesExact w t = owns (c : Thread nD τ) ((cfg0.win w).stage (cfg0.slots t w)) fullShare ((ffnDat V c).after w t) := by
  unfold Dat.leavesExact; rw [h]; try rfl

/-- What the body is called with at point `t`. -/
def ffnPre (t : Fin cfg0.N) : sProp 𝕄 :=
  iprop((ffnDat V c).Φ t.castSucc ∗ (ffnDat V c).owesAt () t.castSucc
    ∗ (∃ d, owns (c : Thread nD τ) (st0_0 t) fullShare ((ffnDat V c).before 0 t d))
    ∗ (∃ d, owns (c : Thread nD τ) (st0_1 t) fullShare ((ffnDat V c).before 1 t d))
    ∗ (∃ d, owns (c : Thread nD τ) (st0_2 t) fullShare ((ffnDat V c).before 2 t d))
    ∗ (∃ d, owns (c : Thread nD τ) (st0_3 t) fullShare ((ffnDat V c).before 3 t d))
    ∗ (∃ d, owns (c : Thread nD τ) (st0_4 t) fullShare ((ffnDat V c).before 4 t d))
    ∗ (∃ d, owns (c : Thread nD τ) (st0_5 t) fullShare ((ffnDat V c).before 5 t d)))

/-- What it returns. -/
def ffnPost (t : Fin cfg0.N) : sProp 𝕄 :=
  iprop((ffnDat V c).Φ t.succ ∗ (ffnDat V c).owesAt () t.succ
    ∗ (ffnDat V c).leavesExact 0 t ∗ (ffnDat V c).leavesExact 1 t ∗ (ffnDat V c).leavesExact 2 t
    ∗ (ffnDat V c).leavesExact 3 t ∗ (ffnDat V c).leavesExact 4 t ∗ (ffnDat V c).leavesExact 5 t)

set_option maxHeartbeats 1600000 in
/-- The body at any point, case by case. -/
theorem ffn_sound (t : Fin cfg0.N) :
    ffnPre V c t ⊢ wp frame (wpE (defs₀ (F := F)) Variants.none c none) Set.univ (bodyAt0 t) (fun _ => ffnPost V c t) := by
  unfold ffnPre ffnPost bodyAt0
  simp only [ffnBefore_0, ffnBefore_1, ffnBefore_2, ffnBefore_3, ffnBefore_4]
  rw [show (ffnDat V c).owesAt () t.succ = (ffnDat V c).owesAt () t.castSucc from rfl,
    show (ffnDat V c).Φ t.succ = iprop(owns (c : Thread nD τ) ffnScratch fullShare (ffnAcc V t.val t.isLt) ∗ ffnOthers (F := F) c) from rfl,
    ffnDat_Phi, ffnLeaves V c 0 t rfl, ffnLeaves V c 1 t rfl, ffnLeaves V c 2 t rfl, ffnLeaves V c 3 t rfl, ffnLeaves V c 4 t rfl,
    ffnAfter_0, ffnAfter_1, ffnAfter_2, ffnAfter_3, ffnAfter_4]
  by_cases h0 : t.val % 8 = 0
  · have hf : ffnFirst (grid0.coords t) := (ffnFirst_iff t).mpr h0
    have hl : ¬ ffnLast (grid0.coords t) := fun h => by have := (ffnLast_iff t).mp h; omega
    rw [Dat.leavesExact_idle (ffnDat V c) 5 t (ffnIdle t hl) (ffnNoFlush t hl), ffnAcc_first V t h0]
    refine (sep_mono (ffnInv_any V c _ _) .rfl).trans ?_
    iintro ⟨⟨HS, Hr⟩, Ho, ⟨%d0, H0⟩, ⟨%d1, H1⟩, ⟨%d2, H2⟩, ⟨%d3, H3⟩, ⟨%d4, H4⟩, ⟨%d5, H5⟩⟩
    iapply (ffn_first c (grid0.coords t) _ _ _ _ _ _ _ _ _ _ _ _ _ _ (ffnBlk V 1 t) (ffnBlk V 2 t) (ffnBlk V 3 t) (ffnBlk V 4 t) Set.univ _ hf hl)
    isplitl [H1]; · iexact H1
    isplitl [H2]; · iexact H2
    isplitl [H3]; · iexact H3
    isplitl [H4]; · iexact H4
    isplitl [HS]; · iexact HS
    iintro ⟨H1, H2, H3, H4, HS⟩
    isplitl [HS Hr]
    · isplitl [HS] <;> iassumption
    isplitl [Ho]; · iexact Ho
    isplitl [H0]; · iexact H0
    isplitl [H1]; · iexact H1
    isplitl [H2]; · iexact H2
    isplitl [H3]; · iexact H3
    isplitl [H4]; · iexact H4
    iexists _; iexact H5
  · have hf : ¬ ffnFirst (grid0.coords t) := fun h => h0 ((ffnFirst_iff t).mp h)
    have hz : t.val ≠ 0 := fun h => h0 (by rw [h])
    rw [ffnInv_pos V c _ _ hz, ffnAcc_next V t h0]
    by_cases h1 : t.val % 8 = 7
    · have hl : ffnLast (grid0.coords t) := (ffnLast_iff t).mpr h1
      rw [ffnLeaves V c 5 t (ffnLive t hl), ffnAfter_5, ffnAcc_next V t h0]
      iintro ⟨⟨HS, Hr⟩, Ho, ⟨%d0, H0⟩, ⟨%d1, H1⟩, ⟨%d2, H2⟩, ⟨%d3, H3⟩, ⟨%d4, H4⟩, ⟨%d5, H5⟩⟩
      iapply (ffn_last c (grid0.coords t) _ _ _ _ _ _ _ _ _ _ _ _ _ _ (ffnBlk V 0 t) (ffnBlk V 1 t) (ffnBlk V 2 t) (ffnBlk V 3 t) (ffnBlk V 4 t) _ Set.univ _ hf hl)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS] <;> iassumption
      isplitl [Ho]; · iexact Ho
      isplitl [H0]; · iexact H0
      isplitl [H1]; · iexact H1
      isplitl [H2]; · iexact H2
      isplitl [H3]; · iexact H3
      isplitl [H4]; · iexact H4
      iexact H5
    · have hl : ¬ ffnLast (grid0.coords t) := fun h => h1 ((ffnLast_iff t).mp h)
      rw [Dat.leavesExact_idle (ffnDat V c) 5 t (ffnIdle t hl) (ffnNoFlush t hl)]
      iintro ⟨⟨HS, Hr⟩, Ho, ⟨%d0, H0⟩, ⟨%d1, H1⟩, ⟨%d2, H2⟩, ⟨%d3, H3⟩, ⟨%d4, H4⟩, ⟨%d5, H5⟩⟩
      iapply (ffn_mid c (grid0.coords t) _ _ _ _ _ _ _ _ _ _ _ _ _ _ (ffnBlk V 1 t) (ffnBlk V 2 t) (ffnBlk V 3 t) (ffnBlk V 4 t) _ Set.univ _ hf hl)
      isplitl [H1]; · iexact H1
      isplitl [H2]; · iexact H2
      isplitl [H3]; · iexact H3
      isplitl [H4]; · iexact H4
      isplitl [HS]; · iexact HS
      iintro ⟨H1, H2, H3, H4, HS⟩
      isplitl [HS Hr]
      · isplitl [HS] <;> iassumption
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t`'s slots is the body. -/
theorem ffn_row (t : Fin cfg0.N) : defs₀ (F := F) .tc cfg0.body (cfg0.bodyArgs t (cfg0.slots t)) = bodyAt0 t := by
  unfold defs₀; rw [Defs.onTc_tc]

/-- The body obligation of the region's pipeline. -/
theorem ffn_obligation : BodyObligation (ffnDat V c) (defs₀ (F := F)) Variants.none () Set.univ := fun t => by
  rw [bigSep_W0, bigSep_W0, ffn_row]
  exact triple_restated (ffn_sound V c t) rfl .rfl fun _ => .rfl

theorem ffn_hin : (Pipeline.scopedRest (Ix := Unit) (Name := ℕ) (U := UR sig nD τ) (Lvl := ℕ) (Val := Elt F) spec0 c : sProp 𝕄) ⊢ (ffnDat V c).Φ 0 := by
  rw [ffnRest_eq, show (ffnDat V c).Φ 0 = ffnInv V c 0 (Nat.zero_le _) from rfl]; exact .rfl

theorem ffn_hout : (ffnDat V c).Φ (Fin.last cfg0.N) ⊢ (Pipeline.scopedRest (Ix := Unit) (Name := ℕ) (U := UR sig nD τ) (Lvl := ℕ) (Val := Elt F) spec0 c : sProp 𝕄) := by
  rw [ffnRest_eq, show (ffnDat V c).Φ (Fin.last cfg0.N) = ffnInv V c cfg0.N le_rfl from rfl]; exact ffnInv_any V c _ _

end Cert.KernelIdeal.Own

end
-- ==== Proof.KernelIdeal.CombBody.lean ====
/- One grid point of the second pallas_call: one expert's rows are put back in the token array.

   The output block is the whole array, staged once and kept over the eight points: the first point zeroes it, and
   each point adds the product of a one-hot matrix, made from the expert's token indices, with the expert's rows. -/
module

public import proofs.«01_k».proof.Proof.KernelIdeal.FfnBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The conditional: this is the first point. -/
abbrev combFirst (i : grid1.Coords) : Prop := (Scalar.cmpi .ne (Scalar.extui (Scalar.cmpi .eq (BitVec.ofNat 32 (i 0).val) 0#32)) 0#32) = 1#1

theorem combFirst_iff : ∀ t : Fin cfg1.N, combFirst (grid1.coords t) ↔ t.val % 8 = 0 :=
  (fun t => by
    have ht : t.val < 8 := Nat.lt_of_lt_of_eq t.isLt N_1
    have e1 : (grid1.coords t 0).val = t.val / 1 % 8 := Pipeline.Grid.coords_val t 0 (by decide) rfl
    simp only [combFirst, e1]
    word_cmp
   : ∀ t : Fin grid1.N, combFirst (grid1.coords t) ↔ t.val % 8 = 0)

section
variable (c : Dev nD) (i : grid1.Coords)
  (arg1 : Memref sig .tc .vmem S1x1x640 .i32) (harg1 : arg1.IsWhole) (arg2 : Memref sig .tc .vmem S1x640x2048 .bf16) (harg2 : arg2.IsWhole)
  (arg3 : Memref sig .tc .vmem S4096x2048 .f32) (harg3 : arg3.IsWhole)
  (x0 : Vec F S1x1x640 .i32) (x1 : Vec F S1x640x2048 .bf16) (acc : Vec F S4096x2048 .f32) (E : Set ℕ)

/-- The first point: whatever the output block held, it ends at the expert's rows over zeros. -/
theorem comb_first (K : PUnit → sProp 𝕄) (h0 : combFirst i) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay2 x0 (k1_pay1 (F := F)) x1)) -∗ K ⟨⟩))
      ⊢ wp frame (wpE (defs₀ (F := F)) Variants.none c none) E (cc1__combine_body i arg1 harg1 arg2 harg2 arg3 harg3) K := by
  simp only [cc1__combine_body_eq_skeleton]; unfold cc1__combine_body_skel
  unfold owns
  iintro ⟨⟨%f1, %hf1, H1⟩, ⟨%f2, %hf2, H2⟩, ⟨%d3, %f3, -, H3⟩, Hk⟩
  obtain rfl := harg1.eq_unread hf1; obtain rfl := harg2.eq_unread hf2
  sl_exec (disch := first | sl_exact h0)
  sl_step
  iapply Hk
  isplitl [H1]
  · iexists _; isplitr; · ipureintro; exact harg1.read_unread _
    iexact H1
  isplitl [H2]
  · iexists _; isplitr; · ipureintro; exact harg2.read_unread _
    iexact H2
  iexists _; isplitr; swap; · iexact H3
  ipureintro
  sl_unfold_words
  rw [read_last _ _ zeros2, View.readCov_unit_zero (S := S4096x2048) _ zeros2]
  simp only [View.readAt_eq_ld, harg1.read_unread, harg2.read_unread,
    View.ld_unit_zero (S := S1x640x2048) zeros3, View.ld_unit_zero (S := S1x1x640) zeros3]

/-- A later point: the expert's rows are added to the output block. -/
theorem comb_next (K : PUnit → sProp 𝕄) (h0 : ¬ combFirst i) :
    iprop(owns (c : Thread nD τ) arg1 fullShare x0 ∗ owns (c : Thread nD τ) arg2 fullShare x1 ∗ owns (c : Thread nD τ) arg3 fullShare acc
        ∗ (iprop(owns (c : Thread nD τ) arg1 fullShare x0 ∗ owns (c : Thread nD τ) arg2 fullShare x1
            ∗ owns (c : Thread nD τ) arg3 fullShare (k1_pay2 x0 acc x1)) -∗ K ⟨⟩))
      ⊢ wp frame (wpE (defs₀ (F := F)) Variants.none c none) E (cc1__combine_body i arg1 harg1 arg2 harg2 arg3 harg3) K := by
  simp only [cc1__combine_body_eq_skeleton]; unfold cc1__combine_body_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | sl_exact h0)
  sl_step
  iapply Hk
  isplitl [H1]
  · iexists _; isplitr; · ipureintro; exact harg1.read_unread _
    iexact H1
  isplitl [H2]
  · iexists _; isplitr; · ipureintro; exact harg2.read_unread _
    iexact H2
  iexists _; isplitr; swap; · iexact H3
  ipureintro
  sl_unfold_words
  rw [read_last _ _ zeros2]
  simp only [View.readAt_eq_ld, harg1.read_unread, harg2.read_unread, harg3.read_unread,
    View.ld_unit_zero (S := S1x640x2048) zeros3, View.ld_unit_zero (S := S1x1x640) zeros3, View.ld_unit_zero (S := S4096x2048) zeros2]

end

end Cert.KernelIdeal.Own

end
-- ==== Proof.KernelIdeal.CombRegion.lean ====
/- The second pallas_call as a region of @main: what the output block holds after each of the eight grid points, the
   proof data of its pipeline over any entry contents `V`, and the body obligation at a generic point. -/
module

public import proofs.«01_k».proof.Proof.KernelIdeal.CombBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Valuation τ sig (Elt F)) (c : Dev nD)

/-- Window `w`'s block of the entry contents at point `t`. -/
def combBlk (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- What the output block holds after point `n`: the expert's rows over what the point before left, or over zeros. -/
def combAcc : (n : ℕ) → n < cfg1.N → Vec F S4096x2048 .f32
  | 0, h => k1_pay2 (combBlk V 0 ⟨0, h⟩) (k1_pay1 (F := F)) (combBlk V 1 ⟨0, h⟩)
  | n + 1, h => k1_pay2 (combBlk V 0 ⟨n + 1, h⟩) (combAcc n (Nat.lt_of_succ_lt h)) (combBlk V 1 ⟨n + 1, h⟩)

theorem combAcc_first (t : Fin cfg1.N) (h0 : t.val = 0) :
    combAcc V t.val t.isLt = k1_pay2 (combBlk V 0 t) (k1_pay1 (F := F)) (combBlk V 1 t) := by
  obtain ⟨n, hn⟩ := t
  cases n with
  | zero => rfl
  | succ n => exact absurd h0 (Nat.succ_ne_zero n)

theorem combAcc_next (t : Fin cfg1.N) (h0 : ¬ t.val = 0) :
    combAcc V t.val t.isLt = k1_pay2 (combBlk V 0 t) (combAcc V (t.val - 1) (Nat.lt_of_le_of_lt (Nat.sub_le _ _) t.isLt)) (combBlk V 1 t) := by
  obtain ⟨n, hn⟩ := t
  cases n with
  | zero => exact absurd rfl h0
  | succ n => rfl

/-- The proof data of the region's pipeline. -/
def combDat : Dat τ (Elt F) Unit ℕ (UR sig nD τ) ℕ cfg1 c where
  A w := V (Proc.devRef .tc (Pipeline.arrRef spec1 w))
  after w t := match w with
    | ⟨0, _⟩ => combBlk V 0 t
    | ⟨1, _⟩ => combBlk V 1 t
    | ⟨2, _⟩ => combAcc V t.val t.isLt
  Φ _ := Pipeline.scopedRest spec1 c
  q _ := fullShare
  owed _ := 0

theorem combDat_A (w : Fin cfg1.W) : (combDat V c).A w = V (Proc.devRef .tc (Pipeline.arrRef spec1 w)) := by
  dsimp only [combDat]

theorem combAfter_0 (t : Fin cfg1.N) : (combDat V c).after 0 t = combBlk V 0 t := by dsimp only [combDat]
theorem combAfter_1 (t : Fin cfg1.N) : (combDat V c).after 1 t = combBlk V 1 t := by dsimp only [combDat]
theorem combAfter_2 (t : Fin cfg1.N) : (combDat V c).after 2 t = combAcc V t.val t.isLt := by dsimp only [combDat]

/-- Each input's staging buffer holds its block at every point. -/
theorem combBefore_0 (t : Fin cfg1.N) (d) : (combDat V c).before 0 t d = combBlk V 0 t :=
  ((combDat V c).before_in_eq_fetched 0 rfl (fun _ => rfl) (fun _ _ _ => rfl) (fun _ => rfl) t d).trans rfl
theorem combBefore_1 (t : Fin cfg1.N) (d) : (combDat V c).before 1 t d = combBlk V 1 t :=
  ((combDat V c).before_in_eq_fetched 1 rfl (fun _ => rfl) (fun _ _ _ => rfl) (fun _ => rfl) t d).trans rfl

/-- After the first point the output's staging buffer holds what the point before left: it is written back only at
    the last point. -/
theorem combBefore_2 (t : Fin cfg1.N) (h0 : ¬ t.val = 0) (d) :
    (combDat V c).before 2 t d = combAcc V (t.val - 1) (Nat.lt_of_le_of_lt (Nat.sub_le _ _) t.isLt) := by
  have hN : t.val < 8 := lt_of_lt_of_eq t.isLt (show cfg1.N = 8 from N_1)
  rw [Dat.before_out_kept _ 2 rfl t (by omega) (Bool.eq_false_iff.mpr fun h => by have := (flush1_2 _).mp h; dsimp only at this; omega)
    (fun _ => rfl) (fun _ _ => rfl)]
  dsimp only [combDat]

/-- What the body is called with at point `t`. -/
def combPre (t : Fin cfg1.N) : sProp 𝕄 :=
  iprop((combDat V c).Φ t.castSucc ∗ (combDat V c).owesAt () t.castSucc
    ∗ (∃ d, owns (c : Thread nD τ) (st1_0 t) fullShare ((combDat V c).before 0 t d))
    ∗ (∃ d, owns (c : Thread nD τ) (st1_1 t) fullShare ((combDat V c).before 1 t d))
    ∗ (∃ d, owns (c : Thread nD τ) (st1_2 t) fullShare ((combDat V c).before 2 t d)))

/-- What it returns. -/
def combPost (t : Fin cfg1.N) : sProp 𝕄 :=
  iprop((combDat V c).Φ t.succ ∗ (combDat V c).owesAt () t.succ
    ∗ owns (c : Thread nD τ) (st1_0 t) fullShare ((combDat V c).after 0 t)
    ∗ owns (c : Thread nD τ) (st1_1 t) fullShare ((combDat V c).after 1 t)
    ∗ owns (c : Thread nD τ) (st1_2 t) fullShare ((combDat V c).after 2 t))

set_option maxHeartbeats 800000 in
/-- The body at any point, case by case. -/
theorem comb_sound (t : Fin cfg1.N) :
    combPre V c t ⊢ wp frame (wpE (defs₀ (F := F)) Variants.none c none) Set.univ (bodyAt1 t) (fun _ => combPost V c t) := by
  unfold combPre combPost bodyAt1
  simp only [combBefore_0, combBefore_1]
  rw [show (combDat V c).Φ t.succ = (combDat V c).Φ t.castSucc from rfl,
    show (combDat V c).owesAt () t.succ = (combDat V c).owesAt () t.castSucc from rfl,
    combAfter_0, combAfter_1, combAfter_2]
  have hN : t.val < 8 := lt_of_lt_of_eq t.isLt (show cfg1.N = 8 from N_1)
  by_cases h0 : t.val = 0
  · rw [combAcc_first V t h0]
    iintro ⟨HΦ, Ho, ⟨%d0, H0⟩, ⟨%d1, H1⟩, ⟨%d2, H2⟩⟩
    iapply (comb_first c (grid1.coords t) _ _ _ _ _ _ (combBlk V 0 t) (combBlk V 1 t) Set.univ _ ((combFirst_iff t).mpr (by rw [h0])))
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [combAcc_next V t h0]
    simp only [combBefore_2 V c t h0]
    iintro ⟨HΦ, Ho, ⟨%d0, H0⟩, ⟨%d1, H1⟩, ⟨%d2, H2⟩⟩
    iapply (comb_next c (grid1.coords t) _ _ _ _ _ _ (combBlk V 0 t) (combBlk V 1 t) _ Set.univ _ (fun h => h0 (by have := (combFirst_iff t).mp h; omega)))
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at point `t`'s slots is the body. -/
theorem comb_row (t : Fin cfg1.N) : defs₀ (F := F) .tc cfg1.body (cfg1.bodyArgs t (cfg1.slots t)) = bodyAt1 t := by
  unfold defs₀; rw [Defs.onTc_tc]

/-- The body obligation of the region's pipeline. -/
theorem comb_obligation : BodyObligation (combDat V c) (defs₀ (F := F)) Variants.none () Set.univ := fun t => by
  rw [bigSep_W1, bigSep_W1, comb_row]
  exact triple_restated (comb_sound V c t) rfl .rfl fun _ => .rfl

theorem comb_hin : (Pipeline.scopedRest (Ix := Unit) (Name := ℕ) (U := UR sig nD τ) (Lvl := ℕ) (Val := Elt F) spec1 c : sProp 𝕄) ⊢ (combDat V c).Φ 0 := .rfl

theorem comb_hout : (combDat V c).Φ (Fin.last cfg1.N) ⊢ (Pipeline.scopedRest (Ix := Unit) (Name := ℕ) (U := UR sig nD τ) (Lvl := ℕ) (Val := Elt F) spec1 c : sProp 𝕄) := .rfl

end Cert.KernelIdeal.Own

end
-- ==== Proof.KernelIdeal.Run.lean ====
/- The whole run of @main: three host stretches, the first pallas_call, a host stretch, the second pallas_call, and a
   last host stretch. Every weakly fair execution terminates with every counter at zero, the arguments unchanged and
   the results at the valuation the segments compute. -/
module

public import proofs.«01_k».proof.Proof.KernelIdeal.FfnRegion
public import proofs.«01_k».proof.Proof.KernelIdeal.CombRegion
public import proofs.«01_k».proof.Proof.Gen.KernelIdeal.Regions
public import Idealize.ShloMosaic.Lib.Pipeline.FrameTail
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No level is assigned: no core waits on another. -/
abbrev noLevels : GSem nD τ sig → Finset Unit := fun _ => ∅
abbrev levelOf : GSem nD τ sig → Unit → ℕ := fun _ _ => 0

/-- Beside the buffers a core carries only that it owes nothing. -/
abbrev owesNone (c : Dev nD) : sProp 𝕄 := iprop(∃ W, owes (c : Thread nD τ) (0 : CellTallies nD τ sig Unit) W)

-- the kit's implicit arguments are found by unifying its conclusion with this one
set_option backward.isDefEq.respectTransparency.types false in
/-- A pallas_call with no semaphores of its own as a segment: entered with every unscoped buffer at `W` and left with
    them at `W'`, which is `W` but for the windows' arrays, these at what the pipeline computes. -/
def region (pdats : (p : Fin 2) → (c : Dev nD) → Dat τ (Elt F) Unit ℕ (UR sig nD τ) ℕ (cfgs p) c) (p : Fin 2)
    (kit : Pipeline.PLaunchFacts (nD := nD) (τ := τ) (pcfgs (F := F)) p)
    (hbody : ∀ c, BodyObligation (pdats p c) (defs₀ (F := F)) Variants.none () Set.univ)
    (hshare : ∀ c w, (pdats p c).share w = fullShare) (howed : ∀ c t, (pdats p c).owed t = 0)
    (hrec : ∀ c, (pdats p c).recorded 0 = Set.univ)
    (hin : ∀ c, (Pipeline.scopedRest (cfgs p).spec c : sProp 𝕄) ⊢ (pdats p c).Φ 0)
    (hout : ∀ c, (pdats p c).Φ (Fin.last (cfgs p).N) ⊢ (Pipeline.scopedRest (cfgs p).spec c : sProp 𝕄))
    (W W' : Dev nD → Valuation τ sig (Elt F))
    (hA : ∀ c w, (pdats p c).A w = W c (Proc.devRef .tc (Pipeline.arrRef (cfgs p).spec w)))
    (hA' : ∀ c w, (pdats p c).arrAt w (cfgs p).N = W' c (Proc.devRef .tc (Pipeline.arrRef (cfgs p).spec w)))
    (hrest : ∀ (c : Dev nD) (b : Ref sig .tc), (∀ w, b ≠ Pipeline.arrRef (cfgs p).spec w) → W' c (Proc.devRef .tc b) = W c (Proc.devRef .tc b)) :
    Pipeline.RegionSeg (pcfgs (F := F)) adm pdats () defs₀ Variants.none noLevels levelOf p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ noLevels levelOf p howed
  pre c := iprop(StableHlo.held (c : Thread nD τ) (Pipeline.ucRefs τ sig) (W c) ∗ owesNone c)
  post c := iprop(StableHlo.held (c : Thread nD τ) (Pipeline.ucRefs τ sig) (W' c) ∗ owesNone c)
  X _ := iprop(emp)
  Y _ := iprop(emp)
  Z c := Pipeline.unscopedRest (Ix := Unit) (Name := ℕ) (U := UR sig nD τ) (Lvl := ℕ) (cfgs p).spec c (fun b => W c (Proc.devRef .tc b))
  hentry c := by
    rw [Pipeline.ownSems0_none,
      show StableHlo.held (c : Thread nD τ) (Pipeline.ucRefs τ sig) (W c) = unscopedBufs c (fun b => W c (Proc.devRef .tc b))
        from (Pipeline.unscopedBufs_held (Ix := Unit) (Name := ℕ) (U := UR sig nD τ) (Lvl := ℕ) c (W c)).symm]
    have hsplit := Pipeline.arrays_of_unscopedBufs (p := p) (pcfgs (F := F)) adm pdats kit.win kit.arr_whole c (hshare c)
      (fun b => W c (Proc.devRef .tc b)) (fun w => hA c w)
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%S, HO⟩; iexists S; isplitr; · ipureintro; exact fun _ _ => Or.inl ((hrec c).symm ▸ Set.mem_univ _)
      iexact HO
    isplitr; · iempintro
    iexact Hrest
  hin c := by
    refine BIBase.Entails.trans ?_ (hin c)
    iintro ⟨-, -, Hr⟩; iexact Hr
  hout c := by
    refine (hout c).trans ?_
    rw [Pipeline.ownSems0_none]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c pdats (hshare c)
      (fun b => W c (Proc.devRef .tc b)) (fun b => W' c (Proc.devRef .tc b)) ((pdats p c).arrAt · (cfgs p).N)
      (fun w => hA' c w)
      (fun b hb => hrest c b fun w h => hb (h ▸ Finset.mem_image.mpr ⟨w, Finset.mem_univ _, rfl⟩))
    rw [show StableHlo.held (c : Thread nD τ) (Pipeline.ucRefs τ sig) (W' c) = unscopedBufs c (fun b => W' c (Proc.devRef .tc b))
        from (Pipeline.unscopedBufs_held (Ix := Unit) (Name := ℕ) (U := UR sig nD τ) (Lvl := ℕ) c (W' c)).symm]
    iintro ⟨Ha, HO, -, Hrest⟩
    imodintro
    isplitl [Ha Hrest]
    · iapply hjoin; isplitl [Ha] <;> iassumption
    unfold Pipeline.Dat.owesAt Pipeline.owesWithin
    rw [howed c (Fin.last _)]
    icases HO with ⟨%S, -, HO⟩; iexists S; iexact HO

variable (m : (ℓ : Loc nD τ sig) → Buf (Elt F) ℓ) (ρ : Dev nD → PrngReg)

/-- What the first pallas_call leaves in its result. -/
def ffnOut (c : Dev nD) : Buf (Elt F) ((c : Thread nD τ).loc main_v12) := (ffnDat (V3 m c) c).arrAt 5 cfg0.N

/-- The results of the regions, the second's still open. -/
def outs1 : Outs (F := F) := fun J r c => if h : J = 4 ∧ r = main_v12 then h.2 ▸ ffnOut m c else m ((c : Thread nD τ).loc r)

/-- What the second pallas_call leaves in its result. -/
def combOut (c : Dev nD) : Buf (Elt F) ((c : Thread nD τ).loc main_v15) := (combDat (V5 m (outs1 m) c) c).arrAt 2 cfg1.N

/-- What the two regions leave in their results. -/
def outs : Outs (F := F) := fun J r c => if h : J = 6 ∧ r = main_v15 then h.2 ▸ combOut m c else outs1 m J r c

theorem outs_ffn (c : Dev nD) : outs m 4 main_v12 c = ffnOut m c := rfl
theorem outs_comb (c : Dev nD) : outs m 6 main_v15 c = combOut m c := rfl
theorem V5_outs (c : Dev nD) : V5 m (outs m) c = V5 m (outs1 m) c := rfl

/-- The proof data of the two pipelines. -/
def pdats : (p : Fin 2) → (c : Dev nD) → Dat τ (Elt F) Unit ℕ (UR sig nD τ) ℕ (cfgs p) c
  | ⟨0, _⟩, c => ffnDat (V3 m c) c
  | ⟨1, _⟩, c => combDat (V5 m (outs m) c) c

/-- The first pallas_call's segment. -/
def region0 : Pipeline.RegionSeg (pcfgs (F := F)) adm (pdats m) () defs₀ Variants.none noLevels levelOf 0 :=
  region (pdats m) 0 launch0.toP (fun c => ffn_obligation (V3 m c) c) (fun c => (ffnDat (V3 m c) c).share_full fun _ => rfl) (fun _ _ => rfl) (fun _ => rfl)
    (fun c => ffn_hin (V3 m c) c) (fun c => ffn_hout (V3 m c) c) (fun c => V3 m c) (fun c => V4 m (outs m) c) (fun c w => ffnDat_A (V3 m c) c w)
    (fun c w => by
      have key : ∀ w : Fin 6, (ffnDat (V3 m c) c).arrAt w cfg0.N = V4 m (outs m) c (Proc.devRef .tc (Pipeline.arrRef spec0 w)) := by
        intro w
        fin_cases w
        · exact ((ffnDat (V3 m c) c).arrAt_in 0 rfl _).trans (V4_of m (outs m) c main_v11 (by decide)).symm
        · exact ((ffnDat (V3 m c) c).arrAt_in 1 rfl _).trans (V4_of m (outs m) c main_v7 (by decide)).symm
        · exact ((ffnDat (V3 m c) c).arrAt_in 2 rfl _).trans (V4_of m (outs m) c main_v8 (by decide)).symm
        · exact ((ffnDat (V3 m c) c).arrAt_in 3 rfl _).trans (V4_of m (outs m) c main_v9 (by decide)).symm
        · exact ((ffnDat (V3 m c) c).arrAt_in 4 rfl _).trans (V4_of m (outs m) c main_v10 (by decide)).symm
        · exact (Function.update_self (f := V3 m c) (Proc.devRef .tc main_v12) (outs m 4 main_v12 c)).symm
      exact key w)
    (fun c b hb => V4_of m (outs m) c b (by simp only [List.mem_singleton]; exact hb 5))

/-- The second pallas_call's segment. -/
def region1 : Pipeline.RegionSeg (pcfgs (F := F)) adm (pdats m) () defs₀ Variants.none noLevels levelOf 1 :=
  region (pdats m) 1 launch1.toP (fun c => comb_obligation (V5 m (outs m) c) c) (fun c => (combDat (V5 m (outs m) c) c).share_full fun _ => rfl) (fun _ _ => rfl) (fun _ => rfl)
    (fun c => comb_hin (V5 m (outs m) c) c) (fun c => comb_hout (V5 m (outs m) c) c) (fun c => V5 m (outs m) c) (fun c => V6 m (outs m) c) (fun c w => combDat_A (V5 m (outs m) c) c w)
    (fun c w => by
      have key : ∀ w : Fin 3, (combDat (V5 m (outs m) c) c).arrAt w cfg1.N = V6 m (outs m) c (Proc.devRef .tc (Pipeline.arrRef spec1 w)) := by
        intro w
        fin_cases w
        · exact ((combDat (V5 m (outs m) c) c).arrAt_in 0 rfl _).trans (V6_of m (outs m) c main_v14 (by decide)).symm
        · exact ((combDat (V5 m (outs m) c) c).arrAt_in 1 rfl _).trans (V6_of m (outs m) c main_v13 (by decide)).symm
        · exact (Function.update_self (f := V5 m (outs m) c) (Proc.devRef .tc main_v15) (outs m 6 main_v15 c)).symm
      exact key w)
    (fun c b hb => V6_of m (outs m) c b (by simp only [List.mem_singleton]; exact hb 2))

-- the kit's implicit arguments are found by unifying its conclusion with this one
set_option backward.isDefEq.respectTransparency.types false in
set_option maxHeartbeats 1600000 in
/-- THE RUN: every final state holds the last valuation's contents in the results and the arguments as launched, and
    every counter at zero. -/
theorem run : θ_run defs (onTc (τ := τ) (main (F := F))) ⟨m, fun _ => 0, ρ⟩ (fun r => (∀ c : Dev nD,
      r.2.mem ((c.tc : Thread nD τ).loc main_v16) = V7 m (outs m) c main_v16
      ∧ r.2.mem ((c.tc : Thread nD τ).loc main_cst) = V7 m (outs m) c main_cst
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pdats m) () cellOf_inj emb₁ defs₀ Variants.none noLevels levelOf m ρ main
    (segs m (outs m) Variants.none noLevels levelOf (fun _ => owesNone) () (pdats m) (region0 m) (region1 m))
    (fun c Q => by
      rewrite [main_chain c, Pipeline.Seg.run_eq_chain,
        show (segs m (outs m) Variants.none noLevels levelOf (fun _ => owesNone) () (pdats m) (region0 m) (region1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ owesNone c))
    (Tₙ := fun c => StableHlo.held (c : Thread nD τ) (Pipeline.ucRefs τ sig) (V7 m (outs m) c))
    (hch := fun c => ⟨.rfl, .rfl, .rfl, .rfl, .rfl, .rfl, .rfl, .rfl⟩)
    (hinit := ?_) (QY := fun c s => s.mem ((c.tc : Thread nD τ).loc main_v16) = V7 m (outs m) c main_v16
      ∧ s.mem ((c.tc : Thread nD τ).loc main_cst) = V7 m (outs m) c main_cst
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · refine Pipeline.initEach noLevels levelOf fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      have hb : ∀ b : Ref sig .tc, b.isScoped = false → s'.mem.mem ((c.tc : Thread nD τ).loc b) = V7 m (outs m) c b :=
        fun b hs => h (Proc.devRef .tc b) (Pipeline.devRef_mem_ucRefs hs)
      exact ⟨hb main_v16 rfl, hb main_cst rfl, (hb main_arg0 rfl).trans (V7_main_arg0 m (outs m) c), (hb main_arg1 rfl).trans (V7_main_arg1 m (outs m) c),
        (hb main_arg2 rfl).trans (V7_main_arg2 m (outs m) c), (hb main_arg3 rfl).trans (V7_main_arg3 m (outs m) c), (hb main_arg4 rfl).trans (V7_main_arg4 m (outs m) c)⟩
    · iexact HSI

/-- THE FRAME: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2, h.2⟩) (run m ρ)

end Cert.KernelIdeal.Own

end
-- ==== Proof.KernelIdeal.Host.lean ====
/- What the host operations around the two pallas_calls hold: the router's scores, the selected tokens' scores, numbers and rows,
   and the weights, each read at an index. -/
module

public import proofs.«01_k».proof.Proof.Moves
public import proofs.«01_k».proof.Proof.KernelIdeal.Run
public import Idealize.ShloMosaic.Lib.StableHlo.Run
public import Idealize.ShloMosaic.Lib.StableHlo.RunRead
public import Idealize.ShloMosaic.Lib.ReduceAll

@[expose] public section

set_option maxRecDepth 16384

noncomputable section

open scoped BigOperators

namespace Cert.KernelIdeal.Own

open Cert.KernelIdeal Cert.KernelIdeal.Gen Idealize.ShloMosaic Idealize.ShloMosaic.TcCoe
open Idealize.ShloMosaic.ValueIdx Idealize.ShloMosaic.StableHlo Cert.Moe

/-- The tokens' numbers of every expert as a column of start indices. -/
def starts (r : IVec S5120 32) : IVec S5120x1 32 :=
  broadcastInDim S5120x1 ![0] bcast_S5120_S5120x1_0 (select (cmpi .slt r (broadcastInDim S5120 ![] bcast_S_S5120 (constantI S_ 32 0#32)))
    (addi r (broadcastInDim S5120 ![] bcast_S_S5120 (constantI S_ 32 4096#32))) r)

/-- Whether each start index is a row's. -/
def inRange (i : IVec S5120x1 32) : IVec S5120 1 :=
  Host.reduce IntOp.andi (andi (cmpi .sge i (broadcastInDim S5120x1 ![] bcast_S_S5120x1 (constantI S_ 32 0#32)))
    (cmpi .sle i (broadcastInDim S5120x1 ![0, 1] bcast_S1x1_S5120x1_0_1 (broadcastInDim S1x1 ![1] bcast_S1_S1x1_1 (constantI S1 32 4095#32)))))
    (constantI S_ 1 1#1) reducesTo_S5120x1_S5120_d1 h_S_

/-- The rows the start indices name, a filler where an index is out of range. -/
def taken (x : FVec Ideal S4096x2048 .f32) (r : IVec S5120 32) : FVec Ideal S5120x2048 .f32 :=
  select (broadcastInDim S5120x2048 ![0] bcast_S5120_S5120x2048_0 (inRange (starts r)))
    (Host.gather gather_S4096x2048_S5120x1_S5120x2048_1_0_n_n_0_1_12048 x (starts r))
    (broadcastInDim S5120x2048 ![] bcast_S_S5120x2048 (constant S_ .f32 0x7FC00000#32))

/-- What the called function leaves in its result, from what it is called with. -/
theorem after_take (W : Valuation τ sig (Elt Ideal)) :
    StableHlo.after (hostOps0_1 (F := Ideal)) W (Proc.devRef .tc main_v5) = taken (W (Proc.devRef .tc main_v0)) (W (Proc.devRef .tc main_v4)) := by
  simp only [hostOps0_1]
  after_results_simp
  rfl

/-- A token's number is a row's: neither negative nor beyond the last. -/
theorem word_in_range (b : Fin 4096) :
    IntOp.andi (IntOp.cmpi .sge (BitVec.ofNat 32 b.val) 0#32) (IntOp.cmpi .sle (BitVec.ofNat 32 b.val) 4095#32) = 1#1 := by
  have h : ∀ b : Fin 4096, IntOp.andi (IntOp.cmpi .sge (BitVec.ofNat 32 b.val) 0#32) (IntOp.cmpi .sle (BitVec.ofNat 32 b.val) 4095#32) = 1#1 := by
    decide +kernel
  exact h b

section

variable (x : FVec Ideal S4096x2048 .f32) (r : IVec S5120 32) (s : Fin 5120 → Fin 4096) (hr : ∀ p, r (ix1 p) = BitVec.ofNat 32 (s p).val)

include hr

/-- The start indices are the tokens' numbers. -/
theorem starts_apply (p : Fin 5120) : starts r (ix2 p (0 : Fin 1)) = BitVec.ofNat 32 (s p).val := by
  unfold starts
  rw [broadcastInDim_apply _ _ _ _ (ix1 p) (fun a => by match a with | ⟨0, _⟩ => rfl)]
  show Scalar.select (IntOp.cmpi .slt (r (ix1 p)) 0#32) (IntOp.addi (r (ix1 p)) 4096#32) (r (ix1 p)) = _
  rw [hr]
  exact fixed_word (s p)

/-- Every start index is in range. -/
theorem inRange_apply (p : S5120.Idx) : inRange (starts r) p = 1#1 := by
  unfold inRange
  refine Host.reduce_andi_one _ _ _ _ _ rfl fun i => ?_
  obtain ⟨p, q, rfl⟩ : ∃ (p : Fin 5120) (q : Fin 1), i = ix2 p q := ⟨i 0, i 1, eq_ix2 i⟩
  obtain rfl : q = 0 := Subsingleton.elim _ _
  show IntOp.andi (IntOp.cmpi .sge (starts r (ix2 p 0)) 0#32) (IntOp.cmpi .sle (starts r (ix2 p 0)) 4095#32) = 1#1
  rw [starts_apply r s hr p]
  exact word_in_range (s p)

/-- The rows taken are the tokens'. -/
theorem taken_apply (p : Fin 5120) (k : Fin 2048) : taken x r (ix2 p k) = x (ix2 (s p) k) := by
  unfold taken
  show Scalar.select (broadcastInDim S5120x2048 ![0] bcast_S5120_S5120x2048_0 (inRange (starts r)) (ix2 p k)) _ _ = _
  rw [broadcastInDim_apply _ _ _ _ (ix1 p) (fun a => by match a with | ⟨0, _⟩ => rfl), inRange_apply r s hr]
  exact Routing.gather_row gather_S4096x2048_S5120x1_S5120x2048_1_0_n_n_0_1_12048 rfl rfl rfl rfl rfl x (starts r) p k (s p)
    (starts_apply r s hr p) (by decide)

end

variable (m : (ℓ : Loc nD τ sig) → Buf (Elt Ideal) ℓ) (c : Dev nD)

/-- The router's scores, from the arguments. -/
def sc : (⟨2, ![8, 4096]⟩ : Shape).Idx → EReal := score (m (c, main_arg0)) (m (c, main_arg1))

/-- The tokens' rows. -/
theorem v0_eq : V1 m c main_v0 = shapeCast S4096x2048 (m (c, main_arg0)) shapeCasts_S2x2048x2048_S4096x2048 := by
  simp only [V1, hostOps0]
  after_results_simp
  rfl

/-- The scores' rows, one per expert. -/
theorem v3_eq : V1 m c main_v3 = sc m c := by
  have h : V1 m c main_v3 = transpose S8x4096 [1, 0] (Host.dotGeneral (F := Ideal) (φ₁ := .f32) (φ₂ := .f32) dot_S4096x2048_S2048x8_S4096x8_1_0_0_1_n_n none
      (shapeCast S4096x2048 (m (c, main_arg0)) shapeCasts_S2x2048x2048_S4096x2048)
      (transpose S2048x8 [1, 0] (m (c, main_arg1)) transposes_S8x2048_S2048x8_1_0)) transposes_S4096x8_S8x4096_1_0 := by
    simp only [V1, hostOps0]
    after_results_simp
    rfl
  refine h.trans (funext fun i => ?_)
  obtain ⟨e, t, rfl⟩ : ∃ (e : Fin 8) (t : Fin 4096), i = ix2 e t := ⟨i 0, i 1, eq_ix2 i⟩
  refine (transpose_ix2 (n := 4096) (m := 8) _ _ e t).trans ?_
  unfold sc score
  refine (dot_plain (M := 4096) (K := 2048) (N := 8) _ _ t e).trans (Finset.sum_congr rfl fun k _ => ?_)
  exact congrArg₂ (· * ·) (tokens_apply _ _ t k) (transpose_ix2 (n := 8) (m := 2048) _ _ k e)

/-- The selected scores. -/
theorem values_eq : V1 m c main_values = (Host.topK S8x640 1 (FloatOps.cmpfTotal (F := Ideal) (φ := .f32) .gt) (V1 m c main_v3) sliceFits_S8x4096_S8x640).1 := by
  simp only [V1, hostOps0]
  after_results_simp
  try rfl

/-- The selected tokens' numbers. -/
theorem indices_eq : V1 m c main_indices = (Host.topK S8x640 1 (FloatOps.cmpfTotal (F := Ideal) (φ := .f32) .gt) (V1 m c main_v3) sliceFits_S8x4096_S8x640).2 := by
  simp only [V1, hostOps0]
  after_results_simp
  try rfl

/-- The selected tokens' numbers in one line. -/
theorem v4_eq : V1 m c main_v4 = shapeCast S5120 (V1 m c main_indices) shapeCasts_S8x640_S5120 := by
  simp only [V1, hostOps0]
  after_results_simp
  try rfl

/-- Position `j` of expert `e` in the line of all selected tokens. -/
def pos (e : Fin 8) (j : Fin 640) : Fin 5120 := ⟨e.val * 640 + j.val, by omega⟩

/-- The selected tokens' numbers, expert by expert. -/
theorem indices_apply (e : Fin 8) (j : Fin 640) : V1 m c main_indices (ix2 e j) = BitVec.ofNat 32 (sel (sc m c) e j).val := by
  rw [indices_eq, v3_eq]
  exact topK_snd (sc m c) _ e j

/-- The selected scores, expert by expert. -/
theorem values_apply (e : Fin 8) (j : Fin 640) : V1 m c main_values (ix2 e j) = sc m c (ix2 e (sel (sc m c) e j)) := by
  rw [values_eq, v3_eq]
  exact topK_fst (sc m c) _ e j

/-- The line of the selected tokens' numbers. -/
theorem v4_apply (p : Fin 5120) : V1 m c main_v4 (ix1 p)
    = BitVec.ofNat 32 (sel (sc m c) (⟨p.val / 640, by omega⟩ : Fin 8) (⟨p.val % 640, by omega⟩ : Fin 640)).val := by
  rw [v4_eq]
  refine (shapeCast_apply _ _ _ (ix2 (⟨p.val / 640, by omega⟩ : Fin 8) (⟨p.val % 640, by omega⟩ : Fin 640)) ?_).trans (indices_apply m c _ _)
  rw [Shape.rowMajor_val_two, Shape.rowMajor_val_one]
  show p.val / 640 * 640 + p.val % 640 = p.val
  omega

/-- The rows taken for the experts. -/
theorem v5_apply (e : Fin 8) (j : Fin 640) (k : Fin 2048) :
    V2 m c main_v5 (ix2 (pos e j) k) = tokens (m (c, main_arg0)) (sel (sc m c) e j) k := by
  have h : V2 m c main_v5 = taken (V1 m c main_v0) (V1 m c main_v4) := after_take (V1 m c)
  rw [h]
  refine (taken_apply _ _ _ (v4_apply m c) _ k).trans ?_
  rw [v0_eq]
  refine (tokens_apply _ _ _ k).trans ?_
  have he : (⟨(pos e j).val / 640, by omega⟩ : Fin 8) = e := Fin.ext (by show (e.val * 640 + j.val) / 640 = e.val; omega)
  have hj : (⟨(pos e j).val % 640, by omega⟩ : Fin 640) = j := Fin.ext (by show (e.val * 640 + j.val) % 640 = j.val; omega)
  rw [he, hj]

/-- The first region's tokens. -/
theorem v7_apply (e : Fin 8) (j : Fin 640) (k : Fin 2048) :
    V3 m c main_v7 (ix3 e j k) = tokens (m (c, main_arg0)) (sel (sc m c) e j) k := by
  have h : V3 m c main_v7 = shapeCast S8x640x2048 (V2 m c main_v5) shapeCasts_S5120x2048_S8x640x2048 := by
    simp only [V3, hostOps0_2]
    after_results_simp
    rfl
  rw [h]
  refine (shapeCast_apply _ _ _ (ix2 (pos e j) k) ?_).trans (v5_apply m c e j k)
  rw [Shape.rowMajor_val_two, Shape.rowMajor_val_three]
  rfl

/-- An array the host has not yet written when the second line begins. -/
theorem V2_arg (r : Ref sig .tc) (h1 : r ∉ hostOps0_W) (h2 : r ∉ hostOps0_1_W) : V2 m c r = m (c, r) :=
  (V2_of m c r h2).trans (V1_of m c r h1)

/-- The first region's first weights. -/
theorem v8_eq : V3 m c main_v8 = m (c, main_arg2) := by
  refine Eq.trans ?_ (V2_arg m c main_arg2 (by decide) (by decide))
  simp only [V3, hostOps0_2]
  after_results_simp
  rfl

/-- The first region's gate weights. -/
theorem v9_eq : V3 m c main_v9 = m (c, main_arg4) := by
  refine Eq.trans ?_ (V2_arg m c main_arg4 (by decide) (by decide))
  simp only [V3, hostOps0_2]
  after_results_simp
  rfl

/-- The first region's output weights. -/
theorem v10_eq : V3 m c main_v10 = m (c, main_arg3) := by
  refine Eq.trans ?_ (V2_arg m c main_arg3 (by decide) (by decide))
  simp only [V3, hostOps0_2]
  after_results_simp
  rfl

/-- The first region's selected scores. -/
theorem v11_apply (e : Fin 8) (j : Fin 640) : V3 m c main_v11 (ix3 e (0 : Fin 1) j) = sc m c (ix2 e (sel (sc m c) e j)) := by
  have h : V3 m c main_v11 = shapeCast S8x1x640 (V1 m c main_values) shapeCasts_S8x640_S8x1x640 := by
    rw [← V2_of m c main_values (by decide)]
    simp only [V3, hostOps0_2]
    after_results_simp
    rfl
  rw [h]
  refine (shapeCast_apply _ _ _ (ix2 e j) ?_).trans (values_apply m c e j)
  rw [Shape.rowMajor_val_two, Shape.rowMajor_val_three]
  show e.val * 640 + j.val = (e.val * 1 + 0) * 640 + j.val
  omega

/-- The second region's tokens' numbers. -/
theorem v14_apply (e : Fin 8) (j : Fin 640) :
    V5 m (outs1 m) c main_v14 (ix3 e (0 : Fin 1) j) = BitVec.ofNat 32 (sel (sc m c) e j).val := by
  have h : V5 m (outs1 m) c main_v14 = shapeCast S8x1x640 (V1 m c main_indices) shapeCasts_S8x640_S8x1x640 := by
    rw [← V2_of m c main_indices (by decide), ← V3_of m c main_indices (by decide), ← V4_of m (outs1 m) c main_indices (by decide)]
    simp only [V5, hostOps1]
    after_results_simp
    rfl
  rw [h]
  refine (shapeCast_apply _ _ _ (ix2 e j) ?_).trans (indices_apply m c e j)
  rw [Shape.rowMajor_val_two, Shape.rowMajor_val_three]
  show e.val * 640 + j.val = (e.val * 1 + 0) * 640 + j.val
  omega

/-- The second region's rows are what the first region left. -/
theorem v13_eq : V5 m (outs1 m) c main_v13 = ffnOut m c := by
  have h : V5 m (outs1 m) c main_v13 = V4 m (outs1 m) c main_v12 := by
    simp only [V5, hostOps1]
    after_results_simp
    rfl
  rw [h]
  simp only [V4, Function.update_self]
  rfl

/-- The first result is what the second region left, batched. -/
theorem v16_eq : V7 m (outs m) c main_v16 = shapeCast S2x2048x2048 (combOut m c) shapeCasts_S4096x2048_S2x2048x2048 := by
  have h : V7 m (outs m) c main_v16 = shapeCast S2x2048x2048 (V6 m (outs m) c main_v15) shapeCasts_S4096x2048_S2x2048x2048 := by
    simp only [V7, hostOps2]
    after_results_simp
    rfl
  rw [h]
  simp only [V6, Function.update_self]
  rfl

/-- The second result is zero. -/
theorem cst_eq : V7 m (outs m) c main_cst = constant (F := Ideal) S_ .f32 0x00000000#32 := by
  simp only [V7, hostOps2]
  after_results_simp

end Cert.KernelIdeal.Own

end
-- ==== Proof.KernelIdeal.Payload.lean ====
/- What one grid point computes, entry by entry: a block of hidden units of the feed-forward, the weighting by the softmax,
   and the placing of an expert's rows at its tokens. -/
module

public import proofs.«01_k».proof.Proof.Moves
public import proofs.«01_k».proof.Proof.Gen.KernelIdeal.Skeleton

@[expose] public section

set_option maxRecDepth 16384

noncomputable section

open scoped BigOperators

namespace Cert.KernelIdeal.Own

open Cert.KernelIdeal Cert.KernelIdeal.Gen Idealize.ShloMosaic Idealize.ShloMosaic.ValueIdx Cert.Moe

/-- A matrix with its leading axis of size one dropped, at an entry. -/
theorem drop_lead {α : Type} {n m : Nat} (x : (⟨3, ![1, n, m]⟩ : Shape).Idx → α) (h : (⟨3, ![1, n, m]⟩ : Shape).ShapeCasts ⟨2, ![n, m]⟩)
    (a : Fin n) (b : Fin m) : shapeCast ⟨2, ![n, m]⟩ x h (ix2 a b) = x (ix3 (0 : Fin 1) a b) := by
  refine shapeCast_apply _ _ _ _ ?_
  rw [Shape.rowMajor_val_two, Shape.rowMajor_val_three]
  show ((0 * n + a.val) * m + b.val : Nat) = a.val * m + b.val
  rw [Nat.zero_mul, Nat.zero_add]

/-- A matrix given a leading axis of size one, at an entry. -/
theorem add_lead {α : Type} {n m : Nat} (x : (⟨2, ![n, m]⟩ : Shape).Idx → α) (h : (⟨2, ![n, m]⟩ : Shape).ShapeCasts ⟨3, ![1, n, m]⟩)
    (a : Fin n) (b : Fin m) : shapeCast ⟨3, ![1, n, m]⟩ x h (ix3 (0 : Fin 1) a b) = x (ix2 a b) := by
  refine shapeCast_apply _ _ _ _ ?_
  rw [Shape.rowMajor_val_two, Shape.rowMajor_val_three]
  show (a.val * m + b.val : Nat) = (0 * n + a.val) * m + b.val
  rw [Nat.zero_mul, Nat.zero_add]

/-- The chip's product with a transposed matrix into zeros, at an entry. -/
theorem dot_rows {M K N : Nat} {φ₁ φ₂ : FTy} (x : FVec Ideal ⟨2, ![M, K]⟩ φ₁) (y : FVec Ideal ⟨2, ![N, K]⟩ φ₂) (r : Fin M) (c : Fin N) :
    matmul (DotDims.transposedRhs M K N) none x y (constant (F := Ideal) ⟨2, ![M, N]⟩ .f32 0x00000000#32) (ix2 r c)
      = ∑ k : Fin K, x (ix2 r k) * y (ix2 c k) := by
  refine (Ideal.matmul_transposedRhs_apply (M := M) (K := K) (N := N) none x y _ r c).trans ?_
  show Ideal.ofBits .f32 0x00000000#32 + _ = _
  rw [Ideal.ofBits_zero_f32, zero_add]

/-- The accumulator starts from zero. -/
theorem pay1_apply (i : S640x2048.Idx) : k0_pay1 (F := Ideal) i = 0 := by
  unfold k0_pay1
  rw [shapeCast_self]
  exact Ideal.ofBits_zero_f32

/-- One point adds its block of hidden units' contribution. -/
theorem pay2_apply (x : FVec Ideal S1x640x2048 .bf16) (w1 w3 : FVec Ideal S1x1024x2048 .bf16) (w2 : FVec Ideal S1x2048x1024 .bf16)
    (acc : FVec Ideal S640x2048 .f32) (j : Fin 640) (h : Fin 2048) :
    k0_pay2 (F := Ideal) x w1 w3 w2 acc (ix2 j h) = acc (ix2 j h) + ∑ i : Fin 1024,
      unit (fun k => x (ix3 (0 : Fin 1) j k)) (fun k => w1 (ix3 (0 : Fin 1) i k)) (fun k => w3 (ix3 (0 : Fin 1) i k))
        * w2 (ix3 (0 : Fin 1) h i) := by
  unfold k0_pay2
  rw [shapeCast_self]
  refine congrArg (acc (ix2 j h) + ·) ((dot_rows (M := 640) (K := 1024) (N := 2048) _ _ j h).trans (Finset.sum_congr rfl fun i _ => ?_))
  refine congrArg₂ (· * ·) ?_ (drop_lead (n := 2048) (m := 1024) w2 _ h i)
  have hd : ∀ w : FVec Ideal S1x1024x2048 .bf16,
      matmul dot_S640x2048_S1024x2048_S640x1024_1_1_0_0_n_n none (shapeCast S640x2048 x shapeCasts_S1x640x2048_S640x2048)
        (shapeCast S1024x2048 w shapeCasts_S1x1024x2048_S1024x2048) (constant (F := Ideal) S640x1024 .f32 0x00000000#32) (ix2 j i)
        = ∑ k, x (ix3 (0 : Fin 1) j k) * w (ix3 (0 : Fin 1) i k) := fun w =>
    (dot_rows (M := 640) (K := 2048) (N := 1024) _ _ j i).trans (Finset.sum_congr rfl fun k _ =>
      congrArg₂ (· * ·) (drop_lead (n := 640) (m := 2048) x _ j k) (drop_lead (n := 1024) (m := 2048) w _ i k))
  unfold unit
  rw [← hd w1, ← hd w3]
  rfl

/-- One number spread along a line, at an entry. -/
theorem spread_apply (v : FVec Ideal S1 .f32) (j : Fin 640) :
    broadcastTo S1x640 (shapeCast S1x1 v shapeCasts_S1_S1x1) broadcasts_S1x1_S1x640 (ix2 (0 : Fin 1) j) = v (ix1 (0 : Fin 1)) := by
  rw [broadcastTo_apply _ _ _ (ix2 (0 : Fin 1) (0 : Fin 1)) (fun a => by match a with | ⟨0, _⟩ => rfl | ⟨1, _⟩ => rfl)]
  refine shapeCast_apply _ _ _ _ ?_
  rw [Shape.rowMajor_val_two, Shape.rowMajor_val_one]
  rfl

/-- A line's reduced index put back. -/
theorem line_lift (k : Fin 640) : reduces_S1x640_S1.lift (ix1 (0 : Fin 1)) k = ix2 (0 : Fin 1) k := by
  funext a
  match a with
  | ⟨0, _⟩ => rfl
  | ⟨1, _⟩ => rfl

/-- The last point weighs the accumulated rows. -/
theorem pay3_apply (s : FVec Ideal S1x1x640 .f32) (acc : FVec Ideal S640x2048 .f32) (j : Fin 640) (h : Fin 2048) :
    k0_pay3 (F := Ideal) s acc (ix3 (0 : Fin 1) j h) = acc (ix2 j h) * weight (fun j => s (ix3 (0 : Fin 1) (0 : Fin 1) j)) j := by
  unfold k0_pay3
  dsimp only
  refine (add_lead (n := 640) (m := 2048) _ _ j h).trans (congrArg (acc (ix2 j h) * ·) ?_)
  rw [broadcastTo_apply _ _ _ (ix2 j (0 : Fin 1)) (fun a => by match a with | ⟨0, _⟩ => rfl | ⟨1, _⟩ => rfl)]
  rw [shapeCast_apply _ _ _ (ix2 (0 : Fin 1) j) (by
    rw [Shape.rowMajor_val_two, Shape.rowMajor_val_two]
    show (0 * 640 + j.val : Nat) = j.val * 1 + 0
    omega)]
  have hs : ∀ k, shapeCast S1x640 s shapeCasts_S1x1x640_S1x640 (ix2 (0 : Fin 1) k) = s (ix3 (0 : Fin 1) (0 : Fin 1) k) := fun k =>
    drop_lead (n := 1) (m := 640) s _ (0 : Fin 1) k
  have hm : multiReduction (F := Ideal) .maximumf [1] S1 (shapeCast S1x640 s shapeCasts_S1x1x640_S1x640) 0xFF800000#32 reduces_S1x640_S1 (.inl rfl) rfl
      (ix1 (0 : Fin 1)) = top fun k => s (ix3 (0 : Fin 1) (0 : Fin 1) k) := by
    refine (Ideal.multiReduction_maximumf_single _ _ _ _ _ _).trans ?_
    unfold top
    exact congrArg (Finset.fold max _ · _) (funext fun k => (congrArg _ (line_lift k)).trans (hs k))
  have he : ∀ k, exp (subf (shapeCast S1x640 s shapeCasts_S1x1x640_S1x640) (broadcastTo S1x640 (shapeCast S1x1
      (multiReduction (F := Ideal) .maximumf [1] S1 (shapeCast S1x640 s shapeCasts_S1x1x640_S1x640) 0xFF800000#32 reduces_S1x640_S1 (.inl rfl) rfl)
        shapeCasts_S1_S1x1) broadcasts_S1x1_S1x640)) (ix2 (0 : Fin 1) k)
      = Ideal.exp (s (ix3 (0 : Fin 1) (0 : Fin 1) k) - top fun k => s (ix3 (0 : Fin 1) (0 : Fin 1) k)) := fun k =>
    congrArg Ideal.exp (congrArg₂ (· - ·) (hs k) ((spread_apply _ k).trans hm))
  refine congrArg₂ Ideal.div (he j) ((spread_apply _ j).trans ?_)
  refine (Ideal.multiReduction_add_single _ _ _ _ _ _).trans ?_
  exact Finset.sum_congr rfl fun k _ => (congrArg _ (line_lift k)).trans (he k)

/-- The second region's output starts from zero. -/
theorem comb_pay1_apply (i : S4096x2048.Idx) : k1_pay1 (F := Ideal) i = 0 := Ideal.ofBits_zero_f32

/-- Whether two tokens' numbers agree, as a number: one or zero. -/
theorem same_word (a b : Fin 4096) :
    ((IntOp.cmpi .eq (BitVec.ofNat 32 a.val) (BitVec.ofNat 32 b.val)).setWidth 32).toInt = if b = a then 1 else 0 := by
  have h : (BitVec.ofNat 32 a.val = BitVec.ofNat 32 b.val) ↔ b = a := by
    constructor
    · intro e
      have e' := congrArg BitVec.toNat e
      rw [BitVec.toNat_ofNat, BitVec.toNat_ofNat, Nat.mod_eq_of_lt (by omega), Nat.mod_eq_of_lt (by omega)] at e'
      exact Fin.ext e'.symm
    · rintro rfl; rfl
  by_cases hb : b = a
  · rw [if_pos hb, h.2 hb]
    simp [IntOp.cmpi]
  · rw [if_neg hb]
    have hn : ¬ BitVec.ofNat 32 a.val = BitVec.ofNat 32 b.val := fun e => hb (h.1 e)
    show (BitVec.setWidth 32 (BitVec.ofBool (BitVec.ofNat 32 a.val == BitVec.ofNat 32 b.val))).toInt = 0
    rw [beq_false_of_ne hn]
    rfl

/-- The one-hot matrix at an entry: whether the expert's `j`-th token is `t`. -/
theorem hot_apply (r : IVec S1x1x640 32) (s : Fin 640 → Fin 4096)
    (hr : ∀ j, r (ix3 (0 : Fin 1) (0 : Fin 1) j) = BitVec.ofNat 32 (s j).val) (t : Fin 4096) (j : Fin 640) :
    truncf .bf16 (sitofp (F := Ideal) .f32 (extui 32 (cmpi .eq (iota .tc S4096x640 32 [0] iota_S4096x640_d0_w32)
      (broadcastTo S4096x640 (shapeCast S1x640 r shapeCasts_S1x1x640_S1x640) broadcasts_S1x640_S4096x640)) natLt_1_32)) bitsLt_bf16_f32 (ix2 t j)
      = if s j = t then (1 : EReal) else 0 := by
  show (((((IntOp.cmpi .eq (iota .tc S4096x640 32 [0] iota_S4096x640_d0_w32 (ix2 t j))
    (broadcastTo S4096x640 (shapeCast S1x640 r shapeCasts_S1x1x640_S1x640) broadcasts_S1x640_S4096x640 (ix2 t j))).setWidth 32).toInt : ℝ)) : EReal) = _
  rw [iota_single_apply, broadcastTo_apply _ _ _ (ix2 (0 : Fin 1) j) (fun a => by match a with | ⟨0, _⟩ => rfl | ⟨1, _⟩ => rfl)]
  have hw := (drop_lead (n := 1) (m := 640) r shapeCasts_S1x1x640_S1x640 (0 : Fin 1) j).trans (hr j)
  have e := same_word t (s j)
  rw [← hw] at e
  refine (congrArg (fun z : ℤ => ((z : ℝ) : EReal)) e).trans ?_
  by_cases hj : s j = t
  · rw [if_pos hj, if_pos hj]; simp
  · rw [if_neg hj, if_neg hj]; simp

/-- One point adds an expert's rows at its tokens. -/
theorem comb_pay2_apply (r : IVec S1x1x640 32) (acc : FVec Ideal S4096x2048 .f32) (x : FVec Ideal S1x640x2048 .bf16)
    (s : Fin 640 → Fin 4096) (hr : ∀ j, r (ix3 (0 : Fin 1) (0 : Fin 1) j) = BitVec.ofNat 32 (s j).val) (t : Fin 4096) (h : Fin 2048) :
    k1_pay2 (F := Ideal) r acc x (ix2 t h) = acc (ix2 t h) + ∑ j, if s j = t then x (ix3 (0 : Fin 1) j h) else 0 := by
  unfold k1_pay2
  dsimp only
  rw [shapeCast_self]
  refine congrArg (acc (ix2 t h) + ·) ((Ideal.matmul_plain_apply (M := 4096) (K := 640) (N := 2048) none _ _ _ t h).trans ?_)
  show Ideal.ofBits .f32 0x00000000#32 + _ = _
  rw [Ideal.ofBits_zero_f32, zero_add]
  refine Finset.sum_congr rfl fun j _ => ?_
  refine (congrArg₂ (· * ·) (hot_apply r s hr t j) (drop_lead (n := 640) (m := 2048) x _ j h)).trans ?_
  by_cases hj : s j = t
  · rw [if_pos hj, if_pos hj, one_mul]
  · rw [if_neg hj, if_neg hj, zero_mul]

end Cert.KernelIdeal.Own

end
-- ==== Proof.KernelIdeal.FfnValue.lean ====
/- What the first pallas_call leaves in its result: every expert's rows, the feed-forward of its tokens weighted by the softmax of
   their scores. -/
module

public import proofs.«01_k».proof.Proof.KernelIdeal.Payload
public import proofs.«01_k».proof.Proof.KernelIdeal.FfnRegion

@[expose] public section

set_option maxRecDepth 16384

noncomputable section

open scoped BigOperators

namespace Cert.KernelIdeal.Own

open Cert.KernelIdeal Cert.KernelIdeal.Gen Idealize.ShloMosaic Idealize.ShloMosaic.TcCoe
open Idealize.ShloMosaic.ValueIdx Cert.Moe
open Idealize.ShloMosaic.Pipeline (Dat)

variable (V : Valuation τ sig (Elt Ideal)) (c : Dev nD)

/-- The block positions of the region's windows at a point: the expert is the point's eighth, the hidden block its remainder. -/
theorem at0_0 : ∀ t : Fin grid0.N, win0_0.index t 0 = t.val / 8 ∧ win0_0.index t 1 = 0 ∧ win0_0.index t 2 = 0 := by decide +kernel
theorem at0_1 : ∀ t : Fin grid0.N, win0_1.index t 0 = t.val / 8 ∧ win0_1.index t 1 = 0 ∧ win0_1.index t 2 = 0 := by decide +kernel
theorem at0_2 : ∀ t : Fin grid0.N, win0_2.index t 0 = t.val / 8 ∧ win0_2.index t 1 = t.val % 8 ∧ win0_2.index t 2 = 0 := by decide +kernel
theorem at0_3 : ∀ t : Fin grid0.N, win0_3.index t 0 = t.val / 8 ∧ win0_3.index t 1 = t.val % 8 ∧ win0_3.index t 2 = 0 := by decide +kernel
theorem at0_4 : ∀ t : Fin grid0.N, win0_4.index t 0 = t.val / 8 ∧ win0_4.index t 1 = 0 ∧ win0_4.index t 2 = t.val % 8 := by decide +kernel
theorem at0_5 : ∀ t : Fin grid0.N, win0_5.index t 0 = t.val / 8 ∧ win0_5.index t 1 = 0 ∧ win0_5.index t 2 = 0 := by decide +kernel

/-- The expert a point works on. -/
def expert (t : Fin cfg0.N) : Fin 8 := ⟨t.val / 8, by have h := t.isLt; have : cfg0.N = 64 := N_0; omega⟩

/-- Where hidden unit `i` of a point's block stands among all hidden units. -/
def hidden (t : Fin cfg0.N) (i : Fin 1024) : Fin 8192 := ⟨t.val % 8 * 1024 + i.val, by omega⟩

/-- The point's selected scores. -/
theorem blk0_apply (t : Fin cfg0.N) (j : Fin 640) :
    (ffnBlk V 0 t : FVec Ideal S1x1x640 .f32) (ix3 (0 : Fin 1) (0 : Fin 1) j) = V (Proc.devRef .tc main_v11) (ix3 (expert t) (0 : Fin 1) j) := by
  obtain ⟨h0, h1, h2⟩ := at0_0 t
  refine congrArg (V (Proc.devRef .tc main_v11)) (funext fun a => Fin.ext ?_)
  match a with
  | ⟨0, _⟩ => show win0_0.index t 0 * 1 + 1 * 0 = t.val / 8; omega
  | ⟨1, _⟩ => show win0_0.index t 1 * 1 + 1 * 0 = 0; omega
  | ⟨2, _⟩ => show win0_0.index t 2 * 640 + 1 * j.val = j.val; omega

/-- The point's tokens. -/
theorem blk1_apply (t : Fin cfg0.N) (j : Fin 640) (k : Fin 2048) :
    (ffnBlk V 1 t : FVec Ideal S1x640x2048 .bf16) (ix3 (0 : Fin 1) j k) = V (Proc.devRef .tc main_v7) (ix3 (expert t) j k) := by
  obtain ⟨h0, h1, h2⟩ := at0_1 t
  refine congrArg (V (Proc.devRef .tc main_v7)) (funext fun a => Fin.ext ?_)
  match a with
  | ⟨0, _⟩ => show win0_1.index t 0 * 1 + 1 * 0 = t.val / 8; omega
  | ⟨1, _⟩ => show win0_1.index t 1 * 640 + 1 * j.val = j.val; omega
  | ⟨2, _⟩ => show win0_1.index t 2 * 2048 + 1 * k.val = k.val; omega

/-- The point's first weights. -/
theorem blk2_apply (t : Fin cfg0.N) (i : Fin 1024) (k : Fin 2048) :
    (ffnBlk V 2 t : FVec Ideal S1x1024x2048 .bf16) (ix3 (0 : Fin 1) i k) = V (Proc.devRef .tc main_v8) (ix3 (expert t) (hidden t i) k) := by
  obtain ⟨h0, h1, h2⟩ := at0_2 t
  refine congrArg (V (Proc.devRef .tc main_v8)) (funext fun a => Fin.ext ?_)
  match a with
  | ⟨0, _⟩ => show win0_2.index t 0 * 1 + 1 * 0 = t.val / 8; omega
  | ⟨1, _⟩ => show win0_2.index t 1 * 1024 + 1 * i.val = t.val % 8 * 1024 + i.val; omega
  | ⟨2, _⟩ => show win0_2.index t 2 * 2048 + 1 * k.val = k.val; omega

/-- The point's gate weights. -/
theorem blk3_apply (t : Fin cfg0.N) (i : Fin 1024) (k : Fin 2048) :
    (ffnBlk V 3 t : FVec Ideal S1x1024x2048 .bf16) (ix3 (0 : Fin 1) i k) = V (Proc.devRef .tc main_v9) (ix3 (expert t) (hidden t i) k) := by
  obtain ⟨h0, h1, h2⟩ := at0_3 t
  refine congrArg (V (Proc.devRef .tc main_v9)) (funext fun a => Fin.ext ?_)
  match a with
  | ⟨0, _⟩ => show win0_3.index t 0 * 1 + 1 * 0 = t.val / 8; omega
  | ⟨1, _⟩ => show win0_3.index t 1 * 1024 + 1 * i.val = t.val % 8 * 1024 + i.val; omega
  | ⟨2, _⟩ => show win0_3.index t 2 * 2048 + 1 * k.val = k.val; omega

/-- The point's output weights. -/
theorem blk4_apply (t : Fin cfg0.N) (h : Fin 2048) (i : Fin 1024) :
    (ffnBlk V 4 t : FVec Ideal S1x2048x1024 .bf16) (ix3 (0 : Fin 1) h i) = V (Proc.devRef .tc main_v10) (ix3 (expert t) h (hidden t i)) := by
  obtain ⟨h0, h1, h2⟩ := at0_4 t
  refine congrArg (V (Proc.devRef .tc main_v10)) (funext fun a => Fin.ext ?_)
  match a with
  | ⟨0, _⟩ => show win0_4.index t 0 * 1 + 1 * 0 = t.val / 8; omega
  | ⟨1, _⟩ => show win0_4.index t 1 * 2048 + 1 * h.val = h.val; omega
  | ⟨2, _⟩ => show win0_4.index t 2 * 1024 + 1 * i.val = t.val % 8 * 1024 + i.val; omega

/-- One hidden unit's contribution to an expert's row, over the arrays the region reads. -/
def term (e : Fin 8) (j : Fin 640) (h : Fin 2048) (i : Fin 8192) : EReal :=
  unit (fun k => V (Proc.devRef .tc main_v7) (ix3 e j k)) (fun k => V (Proc.devRef .tc main_v8) (ix3 e i k))
    (fun k => V (Proc.devRef .tc main_v9) (ix3 e i k)) * V (Proc.devRef .tc main_v10) (ix3 e h i)

/-- One point over an accumulator: the point's block of hidden units is added. -/
theorem point_apply (t : Fin cfg0.N) (acc : FVec Ideal S640x2048 .f32) (j : Fin 640) (h : Fin 2048) :
    k0_pay2 (F := Ideal) (ffnBlk V 1 t) (ffnBlk V 2 t) (ffnBlk V 3 t) (ffnBlk V 4 t) acc (ix2 j h)
      = acc (ix2 j h) + ∑ i : Fin 1024, term V (expert t) j h (hidden t i) := by
  refine (pay2_apply _ _ _ _ acc j h).trans (congrArg (acc (ix2 j h) + ·) (Finset.sum_congr rfl fun i _ => ?_))
  unfold term
  refine congrArg₂ (· * ·) ?_ (blk4_apply V t h i)
  exact congr (congr (congrArg unit (funext fun k => blk1_apply V t j k)) (funext fun k => blk2_apply V t i k))
    (funext fun k => blk3_apply V t i k)

/-- The contribution of block `b` of the hidden units. -/
def blockSum (e : Fin 8) (j : Fin 640) (h : Fin 2048) (b : ℕ) : EReal :=
  ∑ i : Fin 1024, term V e j h ⟨b % 8 * 1024 + i.val, by omega⟩

/-- A point's hidden units are its block's. -/
theorem point_block (t : Fin cfg0.N) (j : Fin 640) (h : Fin 2048) :
    ∑ i : Fin 1024, term V (expert t) j h (hidden t i) = blockSum V (expert t) j h (t.val % 8) := by
  unfold blockSum
  refine Finset.sum_congr rfl fun i _ => congrArg (term V (expert t) j h) (Fin.ext ?_)
  show t.val % 8 * 1024 + i.val = t.val % 8 % 8 * 1024 + i.val
  rw [Nat.mod_mod]

/-- After a point the accumulator holds the blocks up to its own. -/
theorem ffnAcc_apply (j : Fin 640) (h : Fin 2048) : ∀ (n : ℕ) (hn : n < cfg0.N),
    ffnAcc V n hn (ix2 j h) = ∑ b ∈ Finset.range (n % 8 + 1), blockSum V (expert ⟨n, hn⟩) j h b := by
  intro n
  induction n with
  | zero =>
    intro hn
    rw [ffnAcc_first V ⟨0, hn⟩ rfl, point_apply, point_block, pay1_apply, zero_add]
    exact (Finset.sum_range_one _).symm
  | succ n ih =>
    intro hn
    by_cases h0 : (n + 1) % 8 = 0
    · rw [ffnAcc_first V ⟨n + 1, hn⟩ h0, point_apply, point_block, pay1_apply, zero_add]
      show blockSum V _ j h ((n + 1) % 8) = _
      rw [h0]
      exact (Finset.sum_range_one _).symm
    · rw [ffnAcc_next V ⟨n + 1, hn⟩ h0, point_apply, point_block]
      show ffnAcc V n _ (ix2 j h) + blockSum V _ j h ((n + 1) % 8) = _
      have he : expert ⟨n, Nat.lt_of_succ_lt hn⟩ = expert ⟨n + 1, hn⟩ := Fin.ext (by show n / 8 = (n + 1) / 8; omega)
      rw [ih (Nat.lt_of_succ_lt hn), he, Finset.sum_range_succ _ ((n + 1) % 8), show n % 8 + 1 = (n + 1) % 8 from by omega]

/-- All eight blocks are all the hidden units. -/
theorem blocks_all (e : Fin 8) (j : Fin 640) (h : Fin 2048) :
    ∑ b ∈ Finset.range 8, blockSum V e j h b = ∑ i : Fin 8192, term V e j h i := by
  rw [Finset.sum_range, ← (finProdFinEquiv (m := 8) (n := 1024)).sum_comp (term V e j h), Fintype.sum_prod_type]
  refine Finset.sum_congr rfl fun b _ => Finset.sum_congr rfl fun i _ => congrArg (term V e j h) (Fin.ext ?_)
  show b.val % 8 * 1024 + i.val = i.val + 1024 * b.val
  have := b.isLt
  omega

/-- The rows of all experts, over the arrays the region reads. -/
def ffnRows : FVec Ideal S8x640x2048 .f32 := fun i =>
  (∑ u : Fin 8192, term V (i 0) (i 1) (i 2) u) * weight (fun k => V (Proc.devRef .tc main_v11) (ix3 (i 0) (0 : Fin 1) k)) (i 1)

/-- What an expert's last point writes back is its block of the rows. -/
theorem ffn_flushed (t : Fin cfg0.N) (hf : (cfg0.win 5).flush t = true) :
    (ffnDat V c).flushed 5 t = ((cfg0.win 5).blk t).view.read (Elt Ideal) (ffnRows V) := by
  have h7 : t.val % 8 = 7 := (flush0_5 t).mp hf
  obtain ⟨h0, h1, h2⟩ := at0_5 t
  show (cfg0.win 5).cut (grid0.coords t) ((ffnDat V c).after 5 t) = _
  rw [ffnAfter_5]
  funext i
  obtain ⟨z, j, h, rfl⟩ : ∃ (z : Fin 1) (j : Fin 640) (h : Fin 2048), i = ix3 z j h := ⟨i 0, i 1, i 2, eq_ix3 i⟩
  obtain rfl : z = 0 := Subsingleton.elim _ _
  have hi : ((cfg0.win 5).blk t).view.emb (ix3 (0 : Fin 1) j h) = ix3 (expert t) j h := by
    funext a
    refine Fin.ext ?_
    match a with
    | ⟨0, _⟩ => show win0_5.index t 0 * 1 + 1 * 0 = t.val / 8; omega
    | ⟨1, _⟩ => show win0_5.index t 1 * 640 + 1 * j.val = j.val; omega
    | ⟨2, _⟩ => show win0_5.index t 2 * 2048 + 1 * h.val = h.val; omega
  show k0_pay3 (F := Ideal) (ffnBlk V 0 t) (ffnAcc V t.val t.isLt) (ix3 (0 : Fin 1) j h)
    = ffnRows V (((cfg0.win 5).blk t).view.emb (ix3 (0 : Fin 1) j h))
  rw [hi, pay3_apply, ffnAcc_apply, h7, blocks_all]
  show _ = (∑ u : Fin 8192, term V (expert t) j h u) * weight (fun k => V (Proc.devRef .tc main_v11) (ix3 (expert t) (0 : Fin 1) k)) j
  exact congrArg (fun s => (∑ u : Fin 8192, term V (expert t) j h u) * weight s j) (funext fun k => blk0_apply V t k)

/-- An index of the result is in a point's block when its expert is the point's. -/
theorem ffn_mem (t : Fin cfg0.N) (i : S8x640x2048.Idx) (h : (i 0).val = t.val / 8) : i ∈ ((cfg0.win 5).blk t).view.set := by
  show i ∈ ((View.whole main_v12).slice (win0_5.rect t)).set
  rw [View.set_slice_whole, Rect.mem_set_unit]
  obtain ⟨h0, h1, h2⟩ := at0_5 t
  have b1 : (i 1 : Nat) < 640 := (i 1).isLt
  have b2 : (i 2 : Nat) < 2048 := (i 2).isLt
  intro a
  match a with
  | ⟨0, _⟩ => show win0_5.index t 0 * 1 ≤ (i 0 : Nat) ∧ (i 0 : Nat) < win0_5.index t 0 * 1 + 1; omega
  | ⟨1, _⟩ => show win0_5.index t 1 * 640 ≤ (i 1 : Nat) ∧ (i 1 : Nat) < win0_5.index t 1 * 640 + 640; omega
  | ⟨2, _⟩ => show win0_5.index t 2 * 2048 ≤ (i 2 : Nat) ∧ (i 2 : Nat) < win0_5.index t 2 * 2048 + 2048; omega

/-- The result after the region: the rows of all experts. -/
theorem ffn_final : (ffnDat V c).arrAt 5 cfg0.N = ffnRows V := by
  refine (ffnDat V c).arrAt_eq_of_cover 5 (ffnRows V) (ffn_flushed V c) fun i => ?_
  have hi : (i 0 : Nat) < 8 := (i 0).isLt
  have hN : cfg0.N = 64 := N_0
  refine ⟨⟨(i 0 : Nat) * 8 + 7, by omega⟩, (flush0_5 _).mpr ?_, ffn_mem _ i ?_⟩
  · show ((i 0 : Nat) * 8 + 7) % 8 = 7
    omega
  · show (i 0 : Nat) = ((i 0 : Nat) * 8 + 7) / 8
    omega

end Cert.KernelIdeal.Own

end
-- ==== Proof.KernelIdeal.CombValue.lean ====
/- What the second pallas_call leaves in its result: each token's row, the sum over the experts of the rows placed at it. -/
module

public import proofs.«01_k».proof.Proof.KernelIdeal.Payload
public import proofs.«01_k».proof.Proof.KernelIdeal.CombRegion

@[expose] public section

set_option maxRecDepth 16384

noncomputable section

open scoped BigOperators

namespace Cert.KernelIdeal.Own

open Cert.KernelIdeal Cert.KernelIdeal.Gen Idealize.ShloMosaic Idealize.ShloMosaic.TcCoe
open Idealize.ShloMosaic.ValueIdx Cert.Moe
open Idealize.ShloMosaic.Pipeline (Dat)

variable (V : Valuation τ sig (Elt Ideal)) (c : Dev nD)

/-- The block positions of the region's windows at a point: the expert is the point, the output's block the whole array. -/
theorem at1_0 : ∀ t : Fin grid1.N, win1_0.index t 0 = t.val ∧ win1_0.index t 1 = 0 ∧ win1_0.index t 2 = 0 := by decide +kernel
theorem at1_1 : ∀ t : Fin grid1.N, win1_1.index t 0 = t.val ∧ win1_1.index t 1 = 0 ∧ win1_1.index t 2 = 0 := by decide +kernel
theorem at1_2 : ∀ t : Fin grid1.N, win1_2.index t 0 = 0 ∧ win1_2.index t 1 = 0 := by decide +kernel

/-- The expert a point works on. -/
def placed (t : Fin cfg1.N) : Fin 8 := ⟨t.val, by have h := t.isLt; have : cfg1.N = 8 := N_1; omega⟩

/-- The point's tokens' numbers. -/
theorem cblk0_apply (t : Fin cfg1.N) (j : Fin 640) :
    (combBlk V 0 t : IVec S1x1x640 32) (ix3 (0 : Fin 1) (0 : Fin 1) j) = V (Proc.devRef .tc main_v14) (ix3 (placed t) (0 : Fin 1) j) := by
  obtain ⟨h0, h1, h2⟩ := at1_0 t
  refine congrArg (V (Proc.devRef .tc main_v14)) (funext fun a => Fin.ext ?_)
  match a with
  | ⟨0, _⟩ => show win1_0.index t 0 * 1 + 1 * 0 = t.val; omega
  | ⟨1, _⟩ => show win1_0.index t 1 * 1 + 1 * 0 = 0; omega
  | ⟨2, _⟩ => show win1_0.index t 2 * 640 + 1 * j.val = j.val; omega

/-- The point's rows. -/
theorem cblk1_apply (t : Fin cfg1.N) (j : Fin 640) (h : Fin 2048) :
    (combBlk V 1 t : FVec Ideal S1x640x2048 .bf16) (ix3 (0 : Fin 1) j h) = V (Proc.devRef .tc main_v13) (ix3 (placed t) j h) := by
  obtain ⟨h0, h1, h2⟩ := at1_1 t
  refine congrArg (V (Proc.devRef .tc main_v13)) (funext fun a => Fin.ext ?_)
  match a with
  | ⟨0, _⟩ => show win1_1.index t 0 * 1 + 1 * 0 = t.val; omega
  | ⟨1, _⟩ => show win1_1.index t 1 * 640 + 1 * j.val = j.val; omega
  | ⟨2, _⟩ => show win1_1.index t 2 * 2048 + 1 * h.val = h.val; omega

section

variable (s : Fin 8 → Fin 640 → Fin 4096)
  (hs : ∀ e j, V (Proc.devRef .tc main_v14) (ix3 e (0 : Fin 1) j) = BitVec.ofNat 32 (s e j).val)

/-- What expert `e`'s rows add to token `t`'s, at column `h`. -/
def addend (t : Fin 4096) (h : Fin 2048) (e : ℕ) : EReal :=
  ∑ j : Fin 640, if s ⟨e % 8, by omega⟩ j = t then
    (V (Proc.devRef .tc main_v13) : FVec Ideal S8x640x2048 .bf16) (ix3 (⟨e % 8, by omega⟩ : Fin 8) j h) else 0

include hs

/-- One point over an accumulator: the point's expert's rows are added. -/
theorem cpoint_apply (p : Fin cfg1.N) (acc : FVec Ideal S4096x2048 .f32) (t : Fin 4096) (h : Fin 2048) :
    k1_pay2 (F := Ideal) (combBlk V 0 p) acc (combBlk V 1 p) (ix2 t h) = acc (ix2 t h) + addend V s t h p.val := by
  have hN : cfg1.N = 8 := N_1
  have hp := p.isLt
  have he : (⟨p.val % 8, by omega⟩ : Fin 8) = placed p := Fin.ext (by show p.val % 8 = p.val; omega)
  refine (comb_pay2_apply _ acc _ (s (placed p)) (fun j => (cblk0_apply V p j).trans (hs _ j)) t h).trans ?_
  unfold addend
  rw [he]
  exact congrArg (acc (ix2 t h) + ·) (Finset.sum_congr rfl fun j _ => by rw [cblk1_apply])

/-- After a point the accumulator holds the experts up to its own. -/
theorem combAcc_apply (t : Fin 4096) (h : Fin 2048) : ∀ (n : ℕ) (hn : n < cfg1.N),
    combAcc V n hn (ix2 t h) = ∑ e ∈ Finset.range (n + 1), addend V s t h e := by
  intro n
  induction n with
  | zero =>
    intro hn
    rw [combAcc_first V ⟨0, hn⟩ rfl, cpoint_apply V s hs, comb_pay1_apply, zero_add]
    exact (Finset.sum_range_one _).symm
  | succ n ih =>
    intro hn
    rw [combAcc_next V ⟨n + 1, hn⟩ (Nat.succ_ne_zero n), cpoint_apply V s hs]
    show combAcc V n _ (ix2 t h) + addend V s t h (n + 1) = _
    rw [ih (Nat.lt_of_succ_lt hn), Finset.sum_range_succ _ (n + 1)]

omit hs in
/-- One token's row at a column, over the arrays the region reads. -/
def combRow (t : Fin 4096) (h : Fin 2048) : EReal :=
  ∑ e : Fin 8, ∑ j : Fin 640, if s e j = t then (V (Proc.devRef .tc main_v13) : FVec Ideal S8x640x2048 .bf16) (ix3 e j h) else 0

omit hs in
/-- The tokens' rows. -/
def combRows : FVec Ideal S4096x2048 .f32 := fun i => combRow V s (i 0) (i 1)

omit hs in
/-- All eight addends are the sum over the experts. -/
theorem addends_all (t : Fin 4096) (h : Fin 2048) : ∑ e ∈ Finset.range 8, addend V s t h e = combRows V s (ix2 t h) := by
  rw [Finset.sum_range]
  show _ = combRow V s t h
  unfold combRow
  refine Finset.sum_congr rfl fun e _ => ?_
  have he : (⟨e.val % 8, by omega⟩ : Fin 8) = e := Fin.ext (Nat.mod_eq_of_lt e.isLt)
  unfold addend
  rw [he]

/-- What the last point writes back is the whole array of the tokens' rows. -/
theorem comb_flushed (p : Fin cfg1.N) (hf : (cfg1.win 2).flush p = true) :
    (combDat V c).flushed 2 p = ((cfg1.win 2).blk p).view.read (Elt Ideal) (combRows V s) := by
  have hN : cfg1.N = 8 := N_1
  have hp := p.isLt
  have h7 : p.val + 1 = 8 := by have := (flush1_2 p).mp hf; omega
  obtain ⟨h0, h1⟩ := at1_2 p
  show (cfg1.win 2).cut (grid1.coords p) ((combDat V c).after 2 p) = _
  rw [combAfter_2]
  funext i
  obtain ⟨t, h, rfl⟩ : ∃ (t : Fin 4096) (h : Fin 2048), i = ix2 t h := ⟨i 0, i 1, eq_ix2 i⟩
  have hi : ((cfg1.win 2).blk p).view.emb (ix2 t h) = ix2 t h := by
    funext a
    refine Fin.ext ?_
    match a with
    | ⟨0, _⟩ => show win1_2.index p 0 * 4096 + 1 * t.val = t.val; omega
    | ⟨1, _⟩ => show win1_2.index p 1 * 2048 + 1 * h.val = h.val; omega
  show combAcc V p.val p.isLt (ix2 t h) = combRows V s (((cfg1.win 2).blk p).view.emb (ix2 t h))
  rw [hi, combAcc_apply V s hs, h7, addends_all]

omit hs in
/-- Every index of the result is in every point's block. -/
theorem comb_mem (p : Fin cfg1.N) (i : S4096x2048.Idx) : i ∈ ((cfg1.win 2).blk p).view.set := by
  show i ∈ ((View.whole main_v15).slice (win1_2.rect p)).set
  rw [View.set_slice_whole, Rect.mem_set_unit]
  obtain ⟨h0, h1⟩ := at1_2 p
  have b0 : (i 0 : Nat) < 4096 := (i 0).isLt
  have b1 : (i 1 : Nat) < 2048 := (i 1).isLt
  intro a
  match a with
  | ⟨0, _⟩ => show win1_2.index p 0 * 4096 ≤ (i 0 : Nat) ∧ (i 0 : Nat) < win1_2.index p 0 * 4096 + 4096; omega
  | ⟨1, _⟩ => show win1_2.index p 1 * 2048 ≤ (i 1 : Nat) ∧ (i 1 : Nat) < win1_2.index p 1 * 2048 + 2048; omega

/-- The result after the region: the tokens' rows. -/
theorem comb_final : (combDat V c).arrAt 2 cfg1.N = combRows V s := by
  refine (combDat V c).arrAt_eq_of_cover 2 (combRows V s) (comb_flushed V c s hs) fun i => ?_
  have hN : cfg1.N = 8 := N_1
  exact ⟨⟨7, by omega⟩, (flush1_2 _).mpr rfl, comb_mem _ i⟩

end

end Cert.KernelIdeal.Own

end
-- ==== Proof.KernelIdeal.Result.lean ====
/- The kernel's run over the extended reals: its first result is the layer of the arguments, its second zero. -/
module

public import proofs.«01_k».proof.Proof.KernelIdeal.Host
public import proofs.«01_k».proof.Proof.KernelIdeal.FfnValue
public import proofs.«01_k».proof.Proof.KernelIdeal.CombValue

@[expose] public section

set_option maxRecDepth 16384

noncomputable section

open scoped BigOperators

namespace Cert.KernelIdeal.Own

open Cert.KernelIdeal Cert.KernelIdeal.Gen Idealize.ShloMosaic Idealize.ShloMosaic.TcCoe
open Idealize.ShloMosaic.ValueIdx Idealize.SL.Sem Cert.Moe

variable (m : (ℓ : Loc nD τ sig) → Buf (Elt Ideal) ℓ) (c : Dev nD)

/-- The first region's rows are the layer's. -/
theorem ffnOut_apply (e : Fin 8) (j : Fin 640) (h : Fin 2048) :
    (ffnOut m c : FVec Ideal S8x640x2048 .f32) (ix3 e j h)
      = row (tokens (m (c, main_arg0))) (sel (sc m c)) (fun e j => sc m c (ix2 e (sel (sc m c) e j)))
          (fun e i k => m (c, main_arg2) (ix3 e i k)) (fun e i k => m (c, main_arg4) (ix3 e i k))
          (fun e h i => m (c, main_arg3) (ix3 e h i)) e j h := by
  unfold ffnOut
  rw [ffn_final]
  unfold row
  show (∑ u : Fin 8192, term (V3 m c) e j h u) * weight (fun k => V3 m c main_v11 (ix3 e (0 : Fin 1) k)) j = _
  refine congrArg₂ (· * ·) (Finset.sum_congr rfl fun u _ => ?_) (congrArg (weight · j) (funext fun k => v11_apply m c e k))
  unfold term
  refine congrArg₂ (· * ·) ?_ (congrFun (v10_eq m c) (ix3 e h u))
  exact congr (congr (congrArg unit (funext fun k => v7_apply m c e j k)) (funext fun k => congrFun (v8_eq m c) (ix3 e u k)))
    (funext fun k => congrFun (v9_eq m c) (ix3 e u k))

/-- The second region's rows are the layer's over flat tokens. -/
theorem combOut_apply (t : Fin 4096) (h : Fin 2048) :
    (combOut m c : FVec Ideal S4096x2048 .f32) (ix2 t h)
      = flat (m (c, main_arg0)) (m (c, main_arg1)) (m (c, main_arg2)) (m (c, main_arg3)) (m (c, main_arg4)) t h := by
  unfold combOut
  rw [comb_final (V5 m (outs1 m) c) c (sel (sc m c)) (v14_apply m c)]
  unfold flat routed
  show combRow (V5 m (outs1 m) c) (sel (sc m c)) t h = _
  unfold combRow
  refine Finset.sum_congr rfl fun e _ => Finset.sum_congr rfl fun j _ => if_congr Iff.rfl ?_ rfl
  exact (congrFun (v13_eq m c) (ix3 e j h)).trans (ffnOut_apply m c e j h)

/-- The first result is the layer. -/
theorem first_eq : V7 m (outs m) c main_v16
    = layer (m (c, main_arg0)) (m (c, main_arg1)) (m (c, main_arg2)) (m (c, main_arg3)) (m (c, main_arg4)) := by
  rw [v16_eq]
  unfold layer
  refine congrArg (fun y => shapeCast S2x2048x2048 y shapeCasts_S4096x2048_S2x2048x2048) (funext fun i => ?_)
  obtain ⟨t, h, rfl⟩ : ∃ (t : Fin 4096) (h : Fin 2048), i = ix2 t h := ⟨i 0, i 1, eq_ix2 i⟩
  exact combOut_apply m c t h

/-- The run: the first result is the layer of the arguments, the second zero, the arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v16) = layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1).trans (first_eq m c), ((h.1 c).2.1).trans (cst_eq m c), (h.1 c).2.2⟩) (run m ρ)

end Cert.KernelIdeal.Own

end
-- ==== Proof.ReferenceFrame.lean ====
/- The reference's frame: it terminates, its arguments keep their contents, and (it has no semaphore) every counter is zero. -/
module

public import proofs.«01_k».proof.Proof.Gen.ReferenceIdeal.Run
public import Idealize.ShloMosaic.Lib.Quiescent

@[expose] public section

noncomputable section

namespace Cert.ReferenceIdeal.Own

open Idealize.ShloMosaic Idealize.ShloMosaic.TcCoe Idealize.SL.Sem

/-- The arguments are unchanged and every counter ends at zero: from the generated run, whose first two conjuncts (the results) are dropped. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => (h c).2.2, sem_eq_zero_of_no_sems (by decide) r.2⟩)
    (Value.run m ρ)

end Cert.ReferenceIdeal.Own

end
-- ==== Proof.Reference.Expert.lean ====
/- One expert's part of the reference, named: the rows its tokens name, the feed-forward block on them, the softmax of their
   scores, and the rows added back; each read at an index. -/
module

public import proofs.«01_k».proof.Proof.Moves
public import proofs.«01_k».proof.Proof.Gen.ReferenceIdeal.Run
public import Idealize.ShloMosaic.Lib.KernelVsHost

@[expose] public section

noncomputable section

open scoped BigOperators

namespace Cert.ReferenceIdeal.Own

open Cert.ReferenceIdeal Cert.ReferenceIdeal.Gen Idealize.ShloMosaic Idealize.ShloMosaic.ValueIdx Cert.Moe

/-- The tokens' numbers as a column of start indices. -/
def fixed (r : IVec S640 32) : IVec S640x1 32 :=
  broadcastInDim S640x1 ![0] bcast_S640_S640x1_0 (select (cmpi .slt r (broadcastInDim S640 ![] bcast_S_S640 (constantI S_ 32 0#32)))
    (addi r (broadcastInDim S640 ![] bcast_S_S640 (constantI S_ 32 4096#32))) r)

/-- The tokens' rows. -/
def rows (X : FVec Ideal S4096x2048 .f32) (r : IVec S640 32) : FVec Ideal S640x2048 .f32 :=
  Host.gather gather_S4096x2048_S640x1_S640x2048_1_0_n_n_0_1_12048 X (fixed r)

/-- Rows times a weight matrix's transpose. -/
def proj (x : FVec Ideal S640x2048 .f32) (w : FVec Ideal S8192x2048 .f32) : FVec Ideal S640x8192 .f32 :=
  Host.dotGeneral dot_S640x2048_S2048x8192_S640x8192_1_0_0_1_n_n none x (transpose S2048x8192 [1, 0] w transposes_S8192x2048_S2048x8192_1_0)

/-- The gated hidden units. -/
def hid (a b : FVec Ideal S640x8192 .f32) : FVec Ideal S640x8192 .f32 :=
  mulf (mulf a (Host.divf (broadcastInDim S640x8192 ![] bcast_S_S640x8192 (constant S_ .f32 0x3F800000#32))
    (addf (broadcastInDim S640x8192 ![] bcast_S_S640x8192 (constant S_ .f32 0x3F800000#32)) (Host.exp (Host.negf a))))) b

/-- The tokens' scores, as a column. -/
def scores (L : FVec Ideal S4096x8 .f32) (r : IVec S640 32) (ew : BitVec 32) : FVec Ideal S640x1 .f32 :=
  broadcastInDim S640x1 ![0] bcast_S640_S640x1_0 (Host.gather gather_S4096x8_S640x2_S640_n_01_n_n_01_1_11 L
    (concatenate S640x2 1 [⟨S640x1, fixed r⟩,
      ⟨S640x1, (broadcastInDim S640x1 ![0] bcast_S640_S640x1_0 (id (broadcastInDim S640 ![] bcast_S_S640 (constantI S_ 32 ew))))⟩]
      concatenates_S640x1_S640x1_S640x2_d1))

/-- The exponentials of scores less the greatest. -/
def expd (l : FVec Ideal S640x1 .f32) : FVec Ideal S640x1 .f32 :=
  Host.exp (subf l (broadcastInDim S640x1 ![0, 1] bcast_S1x1_S640x1_0_1 (broadcastInDim S1x1 ![1] bcast_S1_S1x1_1
    (maximumf (broadcastInDim S1 ![] bcast_S_S1 (constant S_ .f32 0xFF800000#32))
      (Host.reduce FloatOps.maximumf l (constant S_ .f32 0xFF800000#32) reducesTo_S640x1_S1_d0 h_S_)))))

/-- Exponentials over their sum. -/
def norm (p : FVec Ideal S640x1 .f32) : FVec Ideal S640x1 .f32 :=
  Host.divf p (broadcastInDim S640x1 ![0, 1] bcast_S1x1_S640x1_0_1 (broadcastInDim S1x1 ![1] bcast_S1_S1x1_1
    (Host.reduceAdd p (constant S_ .f32 0x00000000#32) reducesTo_S640x1_S1_d0 h_S_)))

/-- What the expert adds: the block's output rows, each times its token's weight. -/
def update (X : FVec Ideal S4096x2048 .f32) (L : FVec Ideal S4096x8 .f32) (r : IVec S640 32) (w1 w3 : FVec Ideal S8192x2048 .f32)
    (w2 : FVec Ideal S2048x8192 .f32) (ew : BitVec 32) : FVec Ideal S640x2048 .f32 :=
  mulf (Host.dotGeneral dot_S640x8192_S8192x2048_S640x2048_1_0_0_1_n_n none (hid (proj (rows X r) w1) (proj (rows X r) w3))
      (transpose S8192x2048 [1, 0] w2 transposes_S2048x8192_S8192x2048_1_0))
    (broadcastInDim S640x2048 ![0, 1] bcast_S640x1_S640x2048_0_1 (norm (expd (scores L r ew))))

/-- The result after one more expert. -/
def step (acc : FVec Ideal S4096x2048 .f32) (X : FVec Ideal S4096x2048 .f32) (L : FVec Ideal S4096x8 .f32) (r : IVec S640 32)
    (w1 w3 : FVec Ideal S8192x2048 .f32) (w2 : FVec Ideal S2048x8192 .f32) (ew : BitVec 32) : FVec Ideal S4096x2048 .f32 :=
  Host.scatterAdd scatter_S4096x2048_S640x1_S640x2048_1_0_0_1 acc (fixed r) (update X L r w1 w3 w2 ew)

section

variable (r : IVec S640 32) (s : Fin 640 → Fin 4096) (hr : ∀ j, r (ix1 j) = BitVec.ofNat 32 (s j).val)
include hr

/-- The column holds the tokens' numbers. -/
theorem fixed_apply (j : Fin 640) : fixed r (ix2 j (0 : Fin 1)) = BitVec.ofNat 32 (s j).val := by
  unfold fixed
  rw [broadcastInDim_apply _ _ _ _ (ix1 j) (fun a => by match a with | ⟨0, _⟩ => rfl)]
  show Scalar.select (IntOp.cmpi .slt (r (ix1 j)) 0#32) (IntOp.addi (r (ix1 j)) 4096#32) (r (ix1 j)) = _
  rw [hr j]; exact fixed_word (s j)

/-- The rows are the tokens'. -/
theorem rows_apply (X : FVec Ideal S4096x2048 .f32) (j : Fin 640) (k : Fin 2048) : rows X r (ix2 j k) = X (ix2 (s j) k) :=
  Routing.gather_row gather_S4096x2048_S640x1_S640x2048_1_0_n_n_0_1_12048 rfl rfl rfl rfl rfl X (fixed r) j k (s j)
    (fixed_apply r s hr j) (by decide)

/-- The scores are the tokens' under the expert. -/
theorem scores_apply (L : FVec Ideal S4096x8 .f32) (e : Fin 8) (j : Fin 640) :
    scores L r (BitVec.ofNat 32 e.val) (ix2 j (0 : Fin 1)) = L (ix2 (s j) e) := by
  unfold scores
  rw [broadcastInDim_apply _ _ _ _ (ix1 j) (fun a => by match a with | ⟨0, _⟩ => rfl)]
  refine gather_pair _ rfl rfl rfl rfl L _ j (s j) e ?_ ?_ (by decide) (by decide)
  · exact (concatenate_pair_apply_left (s₁ := S640x1) (s₂ := S640x1) (t := S640x2) 1 (fixed r) _ _ (ix2 j (0 : Fin 2)) rfl
      (ix2 j (0 : Fin 1)) (fun a => by match a with | ⟨0, _⟩ => rfl | ⟨1, _⟩ => rfl)).trans (fixed_apply r s hr j)
  · exact concatenate_pair_apply_right (s₁ := S640x1) (s₂ := S640x1) (t := S640x2) 1 (fixed r) _ _ (ix2 j (1 : Fin 2)) rfl rfl
      (ix2 j (0 : Fin 1)) (fun a ha => by match a with | ⟨0, _⟩ => rfl | ⟨1, _⟩ => exact absurd rfl ha) rfl

end

/-- A projection's entry. -/
theorem proj_apply (x : FVec Ideal S640x2048 .f32) (w : FVec Ideal S8192x2048 .f32) (j : Fin 640) (i : Fin 8192) :
    proj x w (ix2 j i) = ∑ k : Fin 2048, x (ix2 j k) * w (ix2 i k) := by
  refine (dot_plain (M := 640) (K := 2048) (N := 8192) x _ j i).trans (Finset.sum_congr rfl fun k _ => ?_)
  exact congrArg (x (ix2 j k) * ·) (transpose_ix2 (n := 8192) (m := 2048) w _ k i)

/-- A hidden unit: the logistic is one over one plus the exponential. -/
theorem hid_apply (a b : FVec Ideal S640x8192 .f32) (j : S640x8192.Idx) : hid a b j = (a j * Ideal.logistic (a j)) * b j := by
  show (a j * Ideal.div (Ideal.ofBits .f32 0x3F800000#32) (Ideal.ofBits .f32 0x3F800000#32 + Ideal.exp (-(a j)))) * b j = _
  rw [Ideal.ofBits_one_f32]
  rfl

/-- The exponentials' entries. -/
theorem expd_apply (l : FVec Ideal S640x1 .f32) (j : Fin 640) :
    expd l (ix2 j (0 : Fin 1)) = Ideal.exp (l (ix2 j (0 : Fin 1)) - top fun k => l (ix2 k (0 : Fin 1))) := by
  show Ideal.exp (l (ix2 j (0 : Fin 1)) - _) = _
  refine congrArg (fun z => Ideal.exp (l (ix2 j (0 : Fin 1)) - z)) ?_
  rw [broadcastInDim_apply _ _ _ _ (ix2 (0 : Fin 1) (0 : Fin 1)) (fun a => by match a with | ⟨0, _⟩ => rfl | ⟨1, _⟩ => rfl),
    broadcastInDim_apply _ _ _ _ (ix1 (0 : Fin 1)) (fun a => by match a with | ⟨0, _⟩ => rfl)]
  show max (Ideal.ofBits .f32 0xFF800000#32) _ = _
  rw [hostReduce_maximumf_eq_multiReduction l _ _ _ (by decide) (by decide) (by decide), Ideal.multiReduction_maximumf_single]
  refine (congrArg (max _) ?_).trans (max_top fun k => l (ix2 k (0 : Fin 1)))
  unfold top
  refine congrArg (Finset.fold max _ · _) (funext fun k => congrArg l ?_)
  funext a
  match a with
  | ⟨0, _⟩ => rfl
  | ⟨1, _⟩ => rfl

/-- The weights' entries. -/
theorem norm_apply (p : FVec Ideal S640x1 .f32) (j : Fin 640) :
    norm p (ix2 j (0 : Fin 1)) = Ideal.div (p (ix2 j (0 : Fin 1))) (∑ k : Fin 640, p (ix2 k (0 : Fin 1))) := by
  show Ideal.div (p (ix2 j (0 : Fin 1))) _ = _
  refine congrArg (Ideal.div (p (ix2 j (0 : Fin 1)))) ?_
  rw [broadcastInDim_apply _ _ _ _ (ix2 (0 : Fin 1) (0 : Fin 1)) (fun a => by match a with | ⟨0, _⟩ => rfl | ⟨1, _⟩ => rfl),
    broadcastInDim_apply _ _ _ _ (ix1 (0 : Fin 1)) (fun a => by match a with | ⟨0, _⟩ => rfl)]
  rw [hostReduceAdd_apply, Ideal.hostReduceAdd_total _ (fun b => by match b with | ⟨0, _⟩ => rfl)]
  show Ideal.ofBits .f32 0x00000000#32 + _ = _
  rw [Ideal.ofBits_zero_f32, zero_add, sum_idx2]
  exact Finset.sum_congr rfl fun k _ => Fin.sum_univ_one _

/-- One more expert adds its rows to its tokens'. -/
theorem step_apply (acc X : FVec Ideal S4096x2048 .f32) (L : FVec Ideal S4096x8 .f32) (r : IVec S640 32)
    (w1 w3 : FVec Ideal S8192x2048 .f32) (w2 : FVec Ideal S2048x8192 .f32) (e : Fin 8) (s : Fin 640 → Fin 4096)
    (hr : ∀ j, r (ix1 j) = BitVec.ofNat 32 (s j).val) (t : Fin 4096) (h : Fin 2048) :
    step acc X L r w1 w3 w2 (BitVec.ofNat 32 e.val) (ix2 t h) = acc (ix2 t h) + ∑ j, if s j = t then
      (∑ i, unit (fun k => X (ix2 (s j) k)) (fun k => w1 (ix2 i k)) (fun k => w3 (ix2 i k)) * w2 (ix2 h i))
        * weight (fun j => L (ix2 (s j) e)) j else 0 := by
  refine (scatterAdd_row _ rfl rfl rfl rfl (by decide) acc _ _ s (fixed_apply r s hr) t h).trans ?_
  refine congrArg (acc (ix2 t h) + ·) (Finset.sum_congr rfl fun j _ => if_congr Iff.rfl ?_ rfl)
  refine congrArg₂ (· * ·) ((dot_plain (M := 640) (K := 8192) (N := 2048) _ _ j h).trans (Finset.sum_congr rfl fun i _ => ?_)) ?_
  · refine congrArg₂ (· * ·) ?_ (transpose_ix2 (n := 2048) (m := 8192) w2 _ i h)
    rw [hid_apply, proj_apply, proj_apply]
    simp only [rows_apply r s hr]
    rfl
  · rw [broadcastInDim_apply _ _ _ _ (ix2 j (0 : Fin 1)) (fun a => by match a with | ⟨0, _⟩ => rfl | ⟨1, _⟩ => rfl), norm_apply]
    simp only [expd_apply, scores_apply r s hr]
    rfl

end Cert.ReferenceIdeal.Own

end
-- ==== Proof.Reference.Result.lean ====
/- The reference's result: its eight experts' steps from zeros, which is the layer. -/
module

public import proofs.«01_k».proof.Proof.Reference.Expert

@[expose] public section

set_option maxRecDepth 16384

noncomputable section

open scoped BigOperators

namespace Cert.ReferenceIdeal.Own

open Cert.ReferenceIdeal Cert.ReferenceIdeal.Gen Cert.ReferenceIdeal.Value Idealize.ShloMosaic Idealize.ShloMosaic.TcCoe
open Idealize.ShloMosaic.ValueIdx Idealize.ShloMosaic.StableHlo Idealize.SL.Sem Cert.Moe

/-- Expert `e`'s tokens' numbers. -/
def line (V : Valuation τ sig (Elt Ideal)) (e : Fin 8) : IVec S640 32 :=
  shapeCast _ (extractStridedSlice S1x640 ![e.val, 0] (res_main_indices V)
    ((by decide : ∀ e : Fin 8, S8x640.Slices ![e.val, 0] S1x640) e)) shapeCasts_S1x640_S640

/-- Expert `e`'s matrix of a stack of hidden-unit weights. -/
def wIn (w : FVec Ideal S8x8192x2048 .f32) (e : Fin 8) : FVec Ideal S8192x2048 .f32 :=
  shapeCast _ (extractStridedSlice S1x8192x2048 ![e.val, 0, 0] w
    ((by decide : ∀ e : Fin 8, S8x8192x2048.Slices ![e.val, 0, 0] S1x8192x2048) e)) shapeCasts_S1x8192x2048_S8192x2048

/-- Expert `e`'s matrix of the stack of output weights. -/
def wOut (w : FVec Ideal S8x2048x8192 .f32) (e : Fin 8) : FVec Ideal S2048x8192 .f32 :=
  shapeCast _ (extractStridedSlice S1x2048x8192 ![e.val, 0, 0] w
    ((by decide : ∀ e : Fin 8, S8x2048x8192.Slices ![e.val, 0, 0] S1x2048x8192) e)) shapeCasts_S1x2048x8192_S2048x8192

/-- Expert `e`'s step. -/
def stepAt (V : Valuation τ sig (Elt Ideal)) (e : Fin 8) (acc : FVec Ideal S4096x2048 .f32) : FVec Ideal S4096x2048 .f32 :=
  step acc (res_main_v0 V) (res_main_v2 V) (line V e) (wIn (V (Proc.devRef .tc main_arg2)) e) (wIn (V (Proc.devRef .tc main_arg4)) e)
    (wOut (V (Proc.devRef .tc main_arg3)) e) (BitVec.ofNat 32 e.val)

/-- The result of zero experts. -/
def zeros : FVec Ideal S4096x2048 .f32 := broadcastInDim S4096x2048 ![] bcast_S_S4096x2048 (constant S_ .f32 0x00000000#32)

/-- The first three experts' steps. -/
theorem first_three (V : Valuation τ sig (Elt Ideal)) :
    res_main_v169 V = stepAt V ⟨2, by decide⟩ (stepAt V ⟨1, by decide⟩ (stepAt V ⟨0, by decide⟩ zeros)) := rfl

/-- The next three. -/
theorem next_three (V : Valuation τ sig (Elt Ideal)) :
    res_main_v334 V = stepAt V ⟨5, by decide⟩ (stepAt V ⟨4, by decide⟩ (stepAt V ⟨3, by decide⟩ (res_main_v169 V))) := rfl

/-- The router's scores, transposed, are the layer's. -/
theorem scores_eq (V : Valuation τ sig (Elt Ideal)) :
    res_main_v3 V = score (V (Proc.devRef .tc main_arg0)) (V (Proc.devRef .tc main_arg1)) := by
  funext i
  obtain ⟨e, t, rfl⟩ : ∃ (e : Fin 8) (t : Fin 4096), i = ix2 e t := ⟨i 0, i 1, eq_ix2 i⟩
  unfold res_main_v3
  refine (transpose_ix2 (n := 4096) (m := 8) (res_main_v2 V) _ e t).trans ?_
  unfold res_main_v2 score
  refine (dot_plain (M := 4096) (K := 2048) (N := 8) (res_main_v0 V) _ t e).trans (Finset.sum_congr rfl fun k _ => ?_)
  exact congrArg₂ (· * ·) (tokens_apply _ _ t k) (transpose_ix2 (n := 8) (m := 2048) _ _ k e)

/-- One expert's step at an entry, over the layer's names. -/
theorem stepAt_apply (V : Valuation τ sig (Elt Ideal)) (e : Fin 8) (acc : FVec Ideal S4096x2048 .f32) (t : Fin 4096) (h : Fin 2048) :
    stepAt V e acc (ix2 t h) = acc (ix2 t h) + ∑ j,
      if sel (score (V (Proc.devRef .tc main_arg0)) (V (Proc.devRef .tc main_arg1))) e j = t then
        row (tokens (V (Proc.devRef .tc main_arg0))) (sel (score (V (Proc.devRef .tc main_arg0)) (V (Proc.devRef .tc main_arg1))))
          (fun e j => score (V (Proc.devRef .tc main_arg0)) (V (Proc.devRef .tc main_arg1))
            (ix2 e (sel (score (V (Proc.devRef .tc main_arg0)) (V (Proc.devRef .tc main_arg1))) e j)))
          (fun e i k => V (Proc.devRef .tc main_arg2) (ix3 e i k)) (fun e i k => V (Proc.devRef .tc main_arg4) (ix3 e i k))
          (fun e h i => V (Proc.devRef .tc main_arg3) (ix3 e h i)) e j h else 0 := by
  have hr : ∀ j, line V e (ix1 j) = BitVec.ofNat 32 (sel (res_main_v3 V) e j).val := fun j =>
    (line_ix1 (E := 8) (n := 640) (res_main_indices V) e _ _ j).trans (topK_snd (res_main_v3 V) _ e j)
  rw [← scores_eq]
  refine (step_apply acc _ _ _ _ _ _ e _ hr t h).trans ?_
  have hX : ∀ t k, res_main_v0 V (ix2 t k) = tokens (V (Proc.devRef .tc main_arg0)) t k := fun t k => tokens_apply _ _ t k
  have hL : ∀ t : Fin 4096, res_main_v2 V (ix2 t e) = res_main_v3 V (ix2 e t) := fun t =>
    (transpose_ix2 (n := 4096) (m := 8) (res_main_v2 V) _ e t).symm
  have h1 : ∀ w i k, wIn w e (ix2 i k) = w (ix3 e i k) := fun w i k => layer_ix2 (E := 8) (n := 8192) (m := 2048) w e _ _ i k
  have h2 : ∀ w i k, wOut w e (ix2 i k) = w (ix3 e i k) := fun w i k => layer_ix2 (E := 8) (n := 2048) (m := 8192) w e _ _ i k
  simp only [hX, hL, h1, h2]
  rfl

/-- The zeros are zero. -/
theorem zeros_apply (i : S4096x2048.Idx) : zeros i = 0 := Ideal.ofBits_zero_f32

/-- All eight experts: the layer over flat tokens. -/
theorem steps_apply (V : Valuation τ sig (Elt Ideal)) (t : Fin 4096) (h : Fin 2048) :
    stepAt V ⟨7, by decide⟩ (stepAt V ⟨6, by decide⟩ (res_main_v334 V)) (ix2 t h)
      = flat (V (Proc.devRef .tc main_arg0)) (V (Proc.devRef .tc main_arg1)) (V (Proc.devRef .tc main_arg2))
          (V (Proc.devRef .tc main_arg3)) (V (Proc.devRef .tc main_arg4)) t h := by
  rw [next_three, first_three]
  simp only [stepAt_apply, zeros_apply, zero_add]
  unfold flat routed
  rw [Fin.sum_univ_eight]
  rfl

/-- The run: the first result is the layer of the arguments, the second zero, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v445) = layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_cst_79) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  unfold layer
  refine congrArg (fun y => shapeCast S2x2048x2048 y shapeCasts_S4096x2048_S2x2048x2048)
    (show stepAt (launchContents m c) ⟨7, by decide⟩ (stepAt (launchContents m c) ⟨6, by decide⟩ (res_main_v334 (launchContents m c))) = _ from ?_)
  funext i
  obtain ⟨t, k, rfl⟩ : ∃ (t : Fin 4096) (k : Fin 2048), i = ix2 t k := ⟨i 0, i 1, eq_ix2 i⟩
  exact steps_apply (launchContents m c) t k

end Cert.ReferenceIdeal.Own

end
-- ==== Proof.lean ====
/- The certificate's assembly: each program's facts are the generated ones, and each claim is proved in its own module. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Result
public import proofs.«01_k».proof.Proof.ReferenceFrame
public import proofs.«01_k».proof.Proof.Reference.Result

@[expose] public section

noncomputable section

namespace Cert.Proof

open Idealize.ShloMosaic Idealize.SL.Sem

/-- From the same arguments the kernel and the reference both end with the layer of them, and with a zero. -/
theorem algebraic : algebraic_KernelIdeal_ReferenceIdeal (hKernelIdeal := Cert.KernelIdeal.Gen.facts)
    (hReferenceIdeal := Cert.ReferenceIdeal.Gen.facts) := by
  intro m g m' g' _ hargs
  refine ⟨_, _, Cert.KernelIdeal.Own.run_value m g, (θ_run _ _ _).mono (fun r h c => ?_) (Cert.ReferenceIdeal.Own.run m' g')⟩
  obtain ⟨h0, h1, h2, h3, h4⟩ := hargs c
  refine ⟨(h c).1.trans ?_, (h c).2⟩
  rw [h0, h1, h2, h3, h4]

theorem claim : Cert.Claim :=
  ⟨Cert.Kernel.Gen.facts, Cert.KernelIdeal.Gen.facts, Cert.ReferenceIdeal.Gen.facts,
    fun m ρ _ => Cert.Kernel.Own.frame m ρ,
    fun m ρ _ => Cert.KernelIdeal.Own.frame m ρ,
    fun m ρ _ => Cert.ReferenceIdeal.Own.frame m ρ,
    trivial, algebraic⟩

end Cert.Proof

end
